-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![49152, 768]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S32 : Shape := ⟨1, ![32]⟩
abbrev S_ : Shape := ⟨0, ![]⟩
abbrev S1 : Shape := ⟨1, ![1]⟩
abbrev S16 : Shape := ⟨1, ![16]⟩
abbrev S16x1 : Shape := ⟨2, ![16, 1]⟩
abbrev S15 : Shape := ⟨1, ![15]⟩
abbrev S15x1 : Shape := ⟨2, ![15, 1]⟩
abbrev S33 : Shape := ⟨1, ![33]⟩
abbrev S49152x1536 : Shape := ⟨2, ![49152, 1536]⟩
abbrev S1536x1536 : Shape := ⟨2, ![1536, 1536]⟩
abbrev S2 : Shape := ⟨1, ![2]⟩

abbrev nBuf : Space → Nat
  | .hbm => 144
  | .vmem => 3
  | .smem => 1
  | _ => 0

abbrev hbmTy0_0 (i : Nat) : BufTy := match i % 128 with
  | 0 => ⟨S1536x768, .f32⟩
  | 1 => ⟨S768x1536, .f32⟩
  | 2 => ⟨S32, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S32, .i32⟩
  | 10 => ⟨S32, .i1⟩
  | 11 => ⟨S32, .i32⟩
  | 12 => ⟨S_, .i1⟩
  | 13 => ⟨S_, .i32⟩
  | 14 => ⟨S_, .i1⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i1⟩
  | 27 => ⟨S_, .i32⟩
  | 28 => ⟨S_, .i1⟩
  | 29 => ⟨S_, .i32⟩
  | 30 => ⟨S_, .i1⟩
  | 31 => ⟨S_, .i1⟩
  | 32 => ⟨S_, .i1⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S_, .i32⟩
  | 40 => ⟨S1, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i1⟩
  | 53 => ⟨S_, .i32⟩
  | 54 => ⟨S_, .i1⟩
  | 55 => ⟨S_, .i32⟩
  | 56 => ⟨S_, .i1⟩
  | 57 => ⟨S_, .i1⟩
  | 58 => ⟨S_, .i1⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S_, .i32⟩
  | 66 => ⟨S1, .i32⟩
  | 67 => ⟨S_, .i32⟩
  | 68 => ⟨S_, .i32⟩
  | 69 => ⟨S_, .i32⟩
  | 70 => ⟨S16, .i32⟩
  | 71 => ⟨S16, .i32⟩
  | 72 => ⟨S16, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S16, .i32⟩
  | 80 => ⟨S16, .i32⟩
  | 81 => ⟨S_, .i32⟩
  | 82 => ⟨S16, .i32⟩
  | 83 => ⟨S16, .i1⟩
  | 84 => ⟨S_, .i32⟩
  | 85 => ⟨S16, .i32⟩
  | 86 => ⟨S16, .i1⟩
  | 87 => ⟨S_, .i32⟩
  | 88 => ⟨S_, .i1⟩
  | 89 => ⟨S16, .i1⟩
  | 90 => ⟨S16, .i1⟩
  | 91 => ⟨S16, .i1⟩
  | 92 => ⟨S16, .i32⟩
  | 93 => ⟨S16, .i32⟩
  | 94 => ⟨S16, .i32⟩
  | 95 => ⟨S_, .i32⟩
  | 96 => ⟨S16, .i32⟩
  | 97 => ⟨S16, .i1⟩
  | 98 => ⟨S_, .i32⟩
  | 99 => ⟨S16, .i32⟩
  | 100 => ⟨S16, .i32⟩
  | 101 => ⟨S16, .i32⟩
  | 102 => ⟨S16x1, .i32⟩
  | 103 => ⟨S16, .i32⟩
  | 104 => ⟨S_, .i32⟩
  | 105 => ⟨S_, .i32⟩
  | 106 => ⟨S15, .i32⟩
  | 107 => ⟨S15, .i32⟩
  | 108 => ⟨S15, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S15, .i32⟩
  | 116 => ⟨S15, .i32⟩
  | 117 => ⟨S_, .i32⟩
  | 118 => ⟨S15, .i32⟩
  | 119 => ⟨S15, .i1⟩
  | 120 => ⟨S_, .i32⟩
  | 121 => ⟨S15, .i32⟩
  | 122 => ⟨S15, .i1⟩
  | 123 => ⟨S_, .i32⟩
  | 124 => ⟨S_, .i1⟩
  | 125 => ⟨S15, .i1⟩
  | 126 => ⟨S15, .i1⟩
  | 127 => ⟨S15, .i1⟩
  | _ => ⟨S1536x768, .f32⟩

abbrev hbmTy0_1 (i : Nat) : BufTy := match i % 128 with
  | 0 => ⟨S15, .i32⟩
  | 1 => ⟨S15, .i32⟩
  | 2 => ⟨S15, .i32⟩
  | 3 => ⟨S_, .i32⟩
  | 4 => ⟨S15, .i32⟩
  | 5 => ⟨S15, .i1⟩
  | 6 => ⟨S_, .i32⟩
  | 7 => ⟨S15, .i32⟩
  | 8 => ⟨S15, .i32⟩
  | 9 => ⟨S15, .i32⟩
  | 10 => ⟨S15x1, .i32⟩
  | 11 => ⟨S15, .i32⟩
  | 12 => ⟨S1, .i32⟩
  | 13 => ⟨S1, .i32⟩
  | 14 => ⟨S33, .i32⟩
  | 15 => ⟨S49152x1536, .f32⟩
  | _ => ⟨S1536x768, .f32⟩

abbrev hbmTy (i : Nat) : BufTy := match i / 128 with
  | 0 => hbmTy0_0 i
  | 1 => hbmTy0_1 i
  | _ => ⟨S1536x768, .f32⟩

abbrev bufTy : (tb : Table) → Fin (tcTables nBuf tb) → BufTy
  | .hbm, ⟨i, _⟩ => hbmTy i
  | .local _ .vmem, ⟨0, _⟩ => ⟨S1536x768, .f32⟩
  | .local _ .vmem, ⟨1, _⟩ => ⟨S768x1536, .f32⟩
  | .local _ .vmem, ⟨2, _⟩ => ⟨S1536x1536, .f32⟩
  | .local _ .smem, ⟨0, _⟩ => ⟨S33, .i32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_c : Ref sig .tc := ⟨.hbm, 12, rfl⟩
abbrev main_call0_c_0 : Ref sig .tc := ⟨.hbm, 13, rfl⟩
abbrev main_call0_v1_0 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_c_3 : Ref sig .tc := ⟨.hbm, 18, rfl⟩
abbrev main_call1_v0 : Ref sig .tc := ⟨.hbm, 19, rfl⟩
abbrev main_call1_c : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_c_1 : Ref sig .tc := ⟨.hbm, 25, rfl⟩
abbrev main_call1_v4 : Ref sig .tc := ⟨.hbm, 26, rfl⟩
abbrev main_call1_c_2 : Ref sig .tc := ⟨.hbm, 27, rfl⟩
abbrev main_call1_v5 : Ref sig .tc := ⟨.hbm, 28, rfl⟩
abbrev main_call1_c_3 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_v9 : Ref sig .tc := ⟨.hbm, 34, rfl⟩
abbrev main_c_4 : Ref sig .tc := ⟨.hbm, 35, rfl⟩
abbrev main_v10 : Ref sig .tc := ⟨.hbm, 36, rfl⟩
abbrev main_c_5 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_c_6 : Ref sig .tc := ⟨.hbm, 42, rfl⟩
abbrev main_v15 : Ref sig .tc := ⟨.hbm, 43, rfl⟩
abbrev main_c_7 : Ref sig .tc := ⟨.hbm, 44, rfl⟩
abbrev main_call2_v0 : Ref sig .tc := ⟨.hbm, 45, rfl⟩
abbrev main_call2_c : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_v3 : Ref sig .tc := ⟨.hbm, 50, rfl⟩
abbrev main_call2_c_1 : Ref sig .tc := ⟨.hbm, 51, rfl⟩
abbrev main_call2_v4 : Ref sig .tc := ⟨.hbm, 52, rfl⟩
abbrev main_call2_c_2 : Ref sig .tc := ⟨.hbm, 53, rfl⟩
abbrev main_call2_v5 : Ref sig .tc := ⟨.hbm, 54, rfl⟩
abbrev main_call2_c_3 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_v9 : Ref sig .tc := ⟨.hbm, 59, rfl⟩
abbrev main_v16 : Ref sig .tc := ⟨.hbm, 60, rfl⟩
abbrev main_c_8 : Ref sig .tc := ⟨.hbm, 61, rfl⟩
abbrev main_v17 : Ref sig .tc := ⟨.hbm, 62, rfl⟩
abbrev main_c_9 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_c_10 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_c_11 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v26 : Ref sig .tc := ⟨.hbm, 94, rfl⟩
abbrev main_c_12 : Ref sig .tc := ⟨.hbm, 95, rfl⟩
abbrev main_v27 : Ref sig .tc := ⟨.hbm, 96, rfl⟩
abbrev main_v28 : Ref sig .tc := ⟨.hbm, 97, rfl⟩
abbrev main_c_13 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_c_14 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_c_15 : Ref sig .tc := ⟨.hbm, 109, rfl⟩
abbrev main_call4_v0 : Ref sig .tc := ⟨.hbm, 110, rfl⟩
abbrev main_call4_c : Ref sig .tc := ⟨.hbm, 111, rfl⟩
abbrev main_call4_v1 : Ref sig .tc := ⟨.hbm, 112, rfl⟩
abbrev main_call4_c_0 : Ref sig .tc := ⟨.hbm, 113, rfl⟩
abbrev main_call4_v2 : Ref sig .tc := ⟨.hbm, 114, rfl⟩
abbrev main_call4_v3 : Ref sig .tc := ⟨.hbm, 115, rfl⟩
abbrev main_call4_v4 : Ref sig .tc := ⟨.hbm, 116, rfl⟩
abbrev main_call4_c_1 : Ref sig .tc := ⟨.hbm, 117, rfl⟩
abbrev main_call4_v5 : Ref sig .tc := ⟨.hbm, 118, rfl⟩
abbrev main_call4_v6 : Ref sig .tc := ⟨.hbm, 119, rfl⟩
abbrev main_call4_c_2 : Ref sig .tc := ⟨.hbm, 120, rfl⟩
abbrev main_call4_v7 : Ref sig .tc := ⟨.hbm, 121, rfl⟩
abbrev main_call4_v8 : Ref sig .tc := ⟨.hbm, 122, rfl⟩
abbrev main_call4_c_3 : Ref sig .tc := ⟨.hbm, 123, rfl⟩
abbrev main_call4_v9 : Ref sig .tc := ⟨.hbm, 124, rfl⟩
abbrev main_call4_v10 : Ref sig .tc := ⟨.hbm, 125, rfl⟩
abbrev main_call4_v11 : Ref sig .tc := ⟨.hbm, 126, rfl⟩
abbrev main_call4_v12 : Ref sig .tc := ⟨.hbm, 127, rfl⟩
abbrev main_call4_v13 : Ref sig .tc := ⟨.hbm, 128, rfl⟩
abbrev main_call4_v14 : Ref sig .tc := ⟨.hbm, 129, rfl⟩
abbrev main_v38 : Ref sig .tc := ⟨.hbm, 130, rfl⟩
abbrev main_c_16 : Ref sig .tc := ⟨.hbm, 131, rfl⟩
abbrev main_v39 : Ref sig .tc := ⟨.hbm, 132, rfl⟩
abbrev main_v40 : Ref sig .tc := ⟨.hbm, 133, rfl⟩
abbrev main_c_17 : Ref sig .tc := ⟨.hbm, 134, rfl⟩
abbrev main_v41 : Ref sig .tc := ⟨.hbm, 135, rfl⟩
abbrev main_v42 : Ref sig .tc := ⟨.hbm, 136, rfl⟩
abbrev main_v43 : Ref sig .tc := ⟨.hbm, 137, rfl⟩
abbrev main_v44 : Ref sig .tc := ⟨.hbm, 138, rfl⟩
abbrev main_v45 : Ref sig .tc := ⟨.hbm, 139, rfl⟩
abbrev main_v46 : Ref sig .tc := ⟨.hbm, 140, rfl⟩
abbrev main_v47 : Ref sig .tc := ⟨.hbm, 141, rfl⟩
abbrev main_v48 : Ref sig .tc := ⟨.hbm, 142, rfl⟩
abbrev main_v49 : Ref sig .tc := ⟨.hbm, 143, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1536_i32 : BitVec 32 := 1536#32
  let v13 : BitVec 32 := Scalar.muli v2 c1536_i32
  let c0_i32 : BitVec 32 := 0#32
  ![v13.toNat, 0]
def k0_dev1 (v4 : BitVec 32) : Nat :=
  let c0_i32_9 : BitVec 32 := 0#32
  let c1_i32_8 : BitVec 32 := 1#32
  let v17 : BitVec 32 := Scalar.muli v4 c1_i32_8
  let v18 : BitVec 32 := Scalar.addi c0_i32_9 v17
  v18.toNat

def k0_dev2 (v3 : BitVec 32) : Nat :=
  let c0_i32_12 : BitVec 32 := 0#32
  let c1_i32_11 : BitVec 32 := 1#32
  let v19 : BitVec 32 := Scalar.muli v3 c1_i32_11
  let v20 : BitVec 32 := Scalar.addi c0_i32_12 v19
  v20.toNat

def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1536_i32_14 : BitVec 32 := 1536#32
  let v22 : BitVec 32 := Scalar.muli v2 c1536_i32_14
  let c0_i32_19 : BitVec 32 := 0#32
  ![v22.toNat, 0]
def k0_dev3 (v3 : BitVec 32) : Nat :=
  let c0_i32_18 : BitVec 32 := 0#32
  let c1_i32_17 : BitVec 32 := 1#32
  let v23 : BitVec 32 := Scalar.muli v3 c1_i32_17
  let v24 : BitVec 32 := Scalar.addi c0_i32_18 v23
  v24.toNat
def k0_dev4 (v4 : BitVec 32) : Nat :=
  let c0_i32_26 : BitVec 32 := 0#32
  let c1_i32_25 : BitVec 32 := 1#32
  let v33 : BitVec 32 := Scalar.muli v4 c1_i32_25
  let v34 : BitVec 32 := Scalar.addi c0_i32_26 v33
  v34.toNat
def k0_off3 (v61 : BitVec 32) : Fin 2 → Nat :=
  let c1536_i32_52 : BitVec 32 := 1536#32
  let v63 : BitVec 32 := Scalar.muli v61 c1536_i32_52
  let c0_i32_57 : BitVec 32 := 0#32
  ![v63.toNat, 0]

def k0_dev5 (v3 : BitVec 32) : Nat :=
  let c0_i32_56 : BitVec 32 := 0#32
  let c1_i32_55 : BitVec 32 := 1#32
  let v64 : BitVec 32 := Scalar.muli v3 c1_i32_55
  let v65 : BitVec 32 := Scalar.addi c0_i32_56 v64
  v65.toNat
def k0_off4 (v72 : BitVec 32) : Fin 2 → Nat :=
  let c1536_i32_60 : BitVec 32 := 1536#32
  let v74 : BitVec 32 := Scalar.muli v72 c1536_i32_60
  let c0_i32_65 : BitVec 32 := 0#32
  ![v74.toNat, 0]

def k0_chk4 (v72 : BitVec 32) : Prop :=
  (∀ a, (k0_off4 v72) a + S1536x1536.size a ≤ S49152x1536.size a)
theorem k0_off4_inb : ∀ (v72 : BitVec 32) (k0_hw4 : k0_chk4 v72), ∀ a, (k0_off4 v72) a + S1536x1536.size a ≤ S49152x1536.size a := fun v72 k0_hw4 => k0_hw4

def k0_dev6 (v4 : BitVec 32) : Nat :=
  let c0_i32_64 : BitVec 32 := 0#32
  let c1_i32_63 : BitVec 32 := 1#32
  let v75 : BitVec 32 := Scalar.muli v4 c1_i32_63
  let v76 : BitVec 32 := Scalar.addi c0_i32_64 v75
  v76.toNat
def k0_off5 (v61 : BitVec 32) : Fin 2 → Nat :=
  let c1536_i32_51 : BitVec 32 := 1536#32
  let v62 : BitVec 32 := Scalar.muli v61 c1536_i32_51
  let c0_i32_81 : BitVec 32 := 0#32
  ![v62.toNat, 0]

def k0_chk3 (v61 : BitVec 32) : Prop :=
  (∀ a, (k0_off3 v61) a + S1536x1536.size a ≤ S49152x1536.size a) ∧
  (∀ a, (k0_off5 v61) a + S1536x1536.size a ≤ S49152x1536.size a)
theorem k0_off3_inb : ∀ (v61 : BitVec 32) (k0_hw3 : k0_chk3 v61), ∀ a, (k0_off3 v61) a + S1536x1536.size a ≤ S49152x1536.size a := fun v61 k0_hw3 => k0_hw3.1
theorem k0_off5_inb : ∀ (v61 : BitVec 32) (k0_hw3 : k0_chk3 v61), ∀ a, (k0_off5 v61) a + S1536x1536.size a ≤ S49152x1536.size a := fun v61 k0_hw3 => k0_hw3.2

def k0_off6 (v103 : BitVec 32) : Fin 2 → Nat :=
  let c1536_i32_90 : BitVec 32 := 1536#32
  let v105 : BitVec 32 := Scalar.muli v103 c1536_i32_90
  let c0_i32_95 : BitVec 32 := 0#32
  ![v105.toNat, 0]

def k0_dev7 (v3 : BitVec 32) : Nat :=
  let c0_i32_94 : BitVec 32 := 0#32
  let c1_i32_93 : BitVec 32 := 1#32
  let v106 : BitVec 32 := Scalar.muli v3 c1_i32_93
  let v107 : BitVec 32 := Scalar.addi c0_i32_94 v106
  v107.toNat
def k0_off7 (v114 : BitVec 32) : Fin 2 → Nat :=
  let c1536_i32_98 : BitVec 32 := 1536#32
  let v116 : BitVec 32 := Scalar.muli v114 c1536_i32_98
  let c0_i32_103 : BitVec 32 := 0#32
  ![v116.toNat, 0]

def k0_chk6 (v114 : BitVec 32) : Prop :=
  (∀ a, (k0_off7 v114) a + S1536x1536.size a ≤ S49152x1536.size a)
theorem k0_off7_inb : ∀ (v114 : BitVec 32) (k0_hw6 : k0_chk6 v114), ∀ a, (k0_off7 v114) a + S1536x1536.size a ≤ S49152x1536.size a := fun v114 k0_hw6 => k0_hw6

def k0_dev8 (v4 : BitVec 32) : Nat :=
  let c0_i32_102 : BitVec 32 := 0#32
  let c1_i32_101 : BitVec 32 := 1#32
  let v117 : BitVec 32 := Scalar.muli v4 c1_i32_101
  let v118 : BitVec 32 := Scalar.addi c0_i32_102 v117
  v118.toNat
def k0_off8 (v103 : BitVec 32) : Fin 2 → Nat :=
  let c1536_i32_89 : BitVec 32 := 1536#32
  let v104 : BitVec 32 := Scalar.muli v103 c1536_i32_89
  let c0_i32_119 : BitVec 32 := 0#32
  ![v104.toNat, 0]

def k0_chk5 (v103 : BitVec 32) : Prop :=
  (∀ a, (k0_off6 v103) a + S1536x1536.size a ≤ S49152x1536.size a) ∧
  (∀ a, (k0_off8 v103) a + S1536x1536.size a ≤ S49152x1536.size a)
theorem k0_off6_inb : ∀ (v103 : BitVec 32) (k0_hw5 : k0_chk5 v103), ∀ a, (k0_off6 v103) a + S1536x1536.size a ≤ S49152x1536.size a := fun v103 k0_hw5 => k0_hw5.1
theorem k0_off8_inb : ∀ (v103 : BitVec 32) (k0_hw5 : k0_chk5 v103), ∀ a, (k0_off8 v103) a + S1536x1536.size a ≤ S49152x1536.size a := fun v103 k0_hw5 => k0_hw5.2

def k0_off9 (v145 : BitVec 32) : Fin 2 → Nat :=
  let c1536_i32_128 : BitVec 32 := 1536#32
  let v147 : BitVec 32 := Scalar.muli v145 c1536_i32_128
  let c0_i32_133 : BitVec 32 := 0#32
  ![v147.toNat, 0]

def k0_dev9 (v3 : BitVec 32) : Nat :=
  let c0_i32_132 : BitVec 32 := 0#32
  let c1_i32_131 : BitVec 32 := 1#32
  let v148 : BitVec 32 := Scalar.muli v3 c1_i32_131
  let v149 : BitVec 32 := Scalar.addi c0_i32_132 v148
  v149.toNat
def k0_off10 (v156 : BitVec 32) : Fin 2 → Nat :=
  let c1536_i32_136 : BitVec 32 := 1536#32
  let v158 : BitVec 32 := Scalar.muli v156 c1536_i32_136
  let c0_i32_141 : BitVec 32 := 0#32
  ![v158.toNat, 0]

def k0_chk8 (v156 : BitVec 32) : Prop :=
  (∀ a, (k0_off10 v156) a + S1536x1536.size a ≤ S49152x1536.size a)
theorem k0_off10_inb : ∀ (v156 : BitVec 32) (k0_hw8 : k0_chk8 v156), ∀ a, (k0_off10 v156) a + S1536x1536.size a ≤ S49152x1536.size a := fun v156 k0_hw8 => k0_hw8

def k0_dev10 (v4 : BitVec 32) : Nat :=
  let c0_i32_140 : BitVec 32 := 0#32
  let c1_i32_139 : BitVec 32 := 1#32
  let v159 : BitVec 32 := Scalar.muli v4 c1_i32_139
  let v160 : BitVec 32 := Scalar.addi c0_i32_140 v159
  v160.toNat
def k0_off11 (v145 : BitVec 32) : Fin 2 → Nat :=
  let c1536_i32_127 : BitVec 32 := 1536#32
  let v146 : BitVec 32 := Scalar.muli v145 c1536_i32_127
  let c0_i32_157 : BitVec 32 := 0#32
  ![v146.toNat, 0]

def k0_chk7 (v145 : BitVec 32) : Prop :=
  (∀ a, (k0_off9 v145) a + S1536x1536.size a ≤ S49152x1536.size a) ∧
  (∀ a, (k0_off11 v145) a + S1536x1536.size a ≤ S49152x1536.size a)
theorem k0_off9_inb : ∀ (v145 : BitVec 32) (k0_hw7 : k0_chk7 v145), ∀ a, (k0_off9 v145) a + S1536x1536.size a ≤ S49152x1536.size a := fun v145 k0_hw7 => k0_hw7.1
theorem k0_off11_inb : ∀ (v145 : BitVec 32) (k0_hw7 : k0_chk7 v145), ∀ a, (k0_off11 v145) a + S1536x1536.size a ≤ S49152x1536.size a := fun v145 k0_hw7 => k0_hw7.2

def k0_off12 (v187 : BitVec 32) : Fin 2 → Nat :=
  let c1536_i32_166 : BitVec 32 := 1536#32
  let v189 : BitVec 32 := Scalar.muli v187 c1536_i32_166
  let c0_i32_171 : BitVec 32 := 0#32
  ![v189.toNat, 0]

def k0_dev11 (v3 : BitVec 32) : Nat :=
  let c0_i32_170 : BitVec 32 := 0#32
  let c1_i32_169 : BitVec 32 := 1#32
  let v190 : BitVec 32 := Scalar.muli v3 c1_i32_169
  let v191 : BitVec 32 := Scalar.addi c0_i32_170 v190
  v191.toNat
def k0_off13 (v198 : BitVec 32) : Fin 2 → Nat :=
  let c1536_i32_174 : BitVec 32 := 1536#32
  let v200 : BitVec 32 := Scalar.muli v198 c1536_i32_174
  let c0_i32_179 : BitVec 32 := 0#32
  ![v200.toNat, 0]

def k0_chk10 (v198 : BitVec 32) : Prop :=
  (∀ a, (k0_off13 v198) a + S1536x1536.size a ≤ S49152x1536.size a)
theorem k0_off13_inb : ∀ (v198 : BitVec 32) (k0_hw10 : k0_chk10 v198), ∀ a, (k0_off13 v198) a + S1536x1536.size a ≤ S49152x1536.size a := fun v198 k0_hw10 => k0_hw10

def k0_dev12 (v4 : BitVec 32) : Nat :=
  let c0_i32_178 : BitVec 32 := 0#32
  let c1_i32_177 : BitVec 32 := 1#32
  let v201 : BitVec 32 := Scalar.muli v4 c1_i32_177
  let v202 : BitVec 32 := Scalar.addi c0_i32_178 v201
  v202.toNat
def k0_off14 (v187 : BitVec 32) : Fin 2 → Nat :=
  let c1536_i32_165 : BitVec 32 := 1536#32
  let v188 : BitVec 32 := Scalar.muli v187 c1536_i32_165
  let c0_i32_195 : BitVec 32 := 0#32
  ![v188.toNat, 0]

def k0_chk9 (v187 : BitVec 32) : Prop :=
  (∀ a, (k0_off12 v187) a + S1536x1536.size a ≤ S49152x1536.size a) ∧
  (∀ a, (k0_off14 v187) a + S1536x1536.size a ≤ S49152x1536.size a)
theorem k0_off12_inb : ∀ (v187 : BitVec 32) (k0_hw9 : k0_chk9 v187), ∀ a, (k0_off12 v187) a + S1536x1536.size a ≤ S49152x1536.size a := fun v187 k0_hw9 => k0_hw9.1
theorem k0_off14_inb : ∀ (v187 : BitVec 32) (k0_hw9 : k0_chk9 v187), ∀ a, (k0_off14 v187) a + S1536x1536.size a ≤ S49152x1536.size a := fun v187 k0_hw9 => k0_hw9.2

def k0_off15 (v229 : BitVec 32) : Fin 2 → Nat :=
  let c1536_i32_204 : BitVec 32 := 1536#32
  let v231 : BitVec 32 := Scalar.muli v229 c1536_i32_204
  let c0_i32_209 : BitVec 32 := 0#32
  ![v231.toNat, 0]

def k0_dev13 (v3 : BitVec 32) : Nat :=
  let c0_i32_208 : BitVec 32 := 0#32
  let c1_i32_207 : BitVec 32 := 1#32
  let v232 : BitVec 32 := Scalar.muli v3 c1_i32_207
  let v233 : BitVec 32 := Scalar.addi c0_i32_208 v232
  v233.toNat
def k0_off16 (v240 : BitVec 32) : Fin 2 → Nat :=
  let c1536_i32_212 : BitVec 32 := 1536#32
  let v242 : BitVec 32 := Scalar.muli v240 c1536_i32_212
  let c0_i32_217 : BitVec 32 := 0#32
  ![v242.toNat, 0]

def k0_chk12 (v240 : BitVec 32) : Prop :=
  (∀ a, (k0_off16 v240) a + S1536x1536.size a ≤ S49152x1536.size a)
theorem k0_off16_inb : ∀ (v240 : BitVec 32) (k0_hw12 : k0_chk12 v240), ∀ a, (k0_off16 v240) a + S1536x1536.size a ≤ S49152x1536.size a := fun v240 k0_hw12 => k0_hw12

def k0_dev14 (v4 : BitVec 32) : Nat :=
  let c0_i32_216 : BitVec 32 := 0#32
  let c1_i32_215 : BitVec 32 := 1#32
  let v243 : BitVec 32 := Scalar.muli v4 c1_i32_215
  let v244 : BitVec 32 := Scalar.addi c0_i32_216 v243
  v244.toNat
def k0_off17 (v229 : BitVec 32) : Fin 2 → Nat :=
  let c1536_i32_203 : BitVec 32 := 1536#32
  let v230 : BitVec 32 := Scalar.muli v229 c1536_i32_203
  let c0_i32_233 : BitVec 32 := 0#32
  ![v230.toNat, 0]

def k0_chk11 (v229 : BitVec 32) : Prop :=
  (∀ a, (k0_off15 v229) a + S1536x1536.size a ≤ S49152x1536.size a) ∧
  (∀ a, (k0_off17 v229) a + S1536x1536.size a ≤ S49152x1536.size a)
theorem k0_off15_inb : ∀ (v229 : BitVec 32) (k0_hw11 : k0_chk11 v229), ∀ a, (k0_off15 v229) a + S1536x1536.size a ≤ S49152x1536.size a := fun v229 k0_hw11 => k0_hw11.1
theorem k0_off17_inb : ∀ (v229 : BitVec 32) (k0_hw11 : k0_chk11 v229), ∀ a, (k0_off17 v229) a + S1536x1536.size a ≤ S49152x1536.size a := fun v229 k0_hw11 => k0_hw11.2

def k0_off18 (v271 : BitVec 32) : Fin 2 → Nat :=
  let c1536_i32_242 : BitVec 32 := 1536#32
  let v273 : BitVec 32 := Scalar.muli v271 c1536_i32_242
  let c0_i32_247 : BitVec 32 := 0#32
  ![v273.toNat, 0]

def k0_dev15 (v3 : BitVec 32) : Nat :=
  let c0_i32_246 : BitVec 32 := 0#32
  let c1_i32_245 : BitVec 32 := 1#32
  let v274 : BitVec 32 := Scalar.muli v3 c1_i32_245
  let v275 : BitVec 32 := Scalar.addi c0_i32_246 v274
  v275.toNat
def k0_off19 (v282 : BitVec 32) : Fin 2 → Nat :=
  let c1536_i32_250 : BitVec 32 := 1536#32
  let v284 : BitVec 32 := Scalar.muli v282 c1536_i32_250
  let c0_i32_255 : BitVec 32 := 0#32
  ![v284.toNat, 0]

def k0_chk14 (v282 : BitVec 32) : Prop :=
  (∀ a, (k0_off19 v282) a + S1536x1536.size a ≤ S49152x1536.size a)
theorem k0_off19_inb : ∀ (v282 : BitVec 32) (k0_hw14 : k0_chk14 v282), ∀ a, (k0_off19 v282) a + S1536x1536.size a ≤ S49152x1536.size a := fun v282 k0_hw14 => k0_hw14

def k0_dev16 (v4 : BitVec 32) : Nat :=
  let c0_i32_254 : BitVec 32 := 0#32
  let c1_i32_253 : BitVec 32 := 1#32
  let v285 : BitVec 32 := Scalar.muli v4 c1_i32_253
  let v286 : BitVec 32 := Scalar.addi c0_i32_254 v285
  v286.toNat
def k0_off20 (v271 : BitVec 32) : Fin 2 → Nat :=
  let c1536_i32_241 : BitVec 32 := 1536#32
  let v272 : BitVec 32 := Scalar.muli v271 c1536_i32_241
  let c0_i32_271 : BitVec 32 := 0#32
  ![v272.toNat, 0]

def k0_chk13 (v271 : BitVec 32) : Prop :=
  (∀ a, (k0_off18 v271) a + S1536x1536.size a ≤ S49152x1536.size a) ∧
  (∀ a, (k0_off20 v271) a + S1536x1536.size a ≤ S49152x1536.size a)
theorem k0_off18_inb : ∀ (v271 : BitVec 32) (k0_hw13 : k0_chk13 v271), ∀ a, (k0_off18 v271) a + S1536x1536.size a ≤ S49152x1536.size a := fun v271 k0_hw13 => k0_hw13.1
theorem k0_off20_inb : ∀ (v271 : BitVec 32) (k0_hw13 : k0_chk13 v271), ∀ a, (k0_off20 v271) a + S1536x1536.size a ≤ S49152x1536.size a := fun v271 k0_hw13 => k0_hw13.2

def k0_off21 (v313 : BitVec 32) : Fin 2 → Nat :=
  let c1536_i32_280 : BitVec 32 := 1536#32
  let v315 : BitVec 32 := Scalar.muli v313 c1536_i32_280
  let c0_i32_285 : BitVec 32 := 0#32
  ![v315.toNat, 0]

def k0_dev17 (v3 : BitVec 32) : Nat :=
  let c0_i32_284 : BitVec 32 := 0#32
  let c1_i32_283 : BitVec 32 := 1#32
  let v316 : BitVec 32 := Scalar.muli v3 c1_i32_283
  let v317 : BitVec 32 := Scalar.addi c0_i32_284 v316
  v317.toNat
def k0_off22 (v324 : BitVec 32) : Fin 2 → Nat :=
  let c1536_i32_288 : BitVec 32 := 1536#32
  let v326 : BitVec 32 := Scalar.muli v324 c1536_i32_288
  let c0_i32_293 : BitVec 32 := 0#32
  ![v326.toNat, 0]

def k0_chk16 (v324 : BitVec 32) : Prop :=
  (∀ a, (k0_off22 v324) a + S1536x1536.size a ≤ S49152x1536.size a)
theorem k0_off22_inb : ∀ (v324 : BitVec 32) (k0_hw16 : k0_chk16 v324), ∀ a, (k0_off22 v324) a + S1536x1536.size a ≤ S49152x1536.size a := fun v324 k0_hw16 => k0_hw16

def k0_dev18 (v4 : BitVec 32) : Nat :=
  let c0_i32_292 : BitVec 32 := 0#32
  let c1_i32_291 : BitVec 32 := 1#32
  let v327 : BitVec 32 := Scalar.muli v4 c1_i32_291
  let v328 : BitVec 32 := Scalar.addi c0_i32_292 v327
  v328.toNat
def k0_off23 (v313 : BitVec 32) : Fin 2 → Nat :=
  let c1536_i32_279 : BitVec 32 := 1536#32
  let v314 : BitVec 32 := Scalar.muli v313 c1536_i32_279
  let c0_i32_309 : BitVec 32 := 0#32
  ![v314.toNat, 0]

def k0_chk15 (v313 : BitVec 32) : Prop :=
  (∀ a, (k0_off21 v313) a + S1536x1536.size a ≤ S49152x1536.size a) ∧
  (∀ a, (k0_off23 v313) a + S1536x1536.size a ≤ S49152x1536.size a)
theorem k0_off21_inb : ∀ (v313 : BitVec 32) (k0_hw15 : k0_chk15 v313), ∀ a, (k0_off21 v313) a + S1536x1536.size a ≤ S49152x1536.size a := fun v313 k0_hw15 => k0_hw15.1
theorem k0_off23_inb : ∀ (v313 : BitVec 32) (k0_hw15 : k0_chk15 v313), ∀ a, (k0_off23 v313) a + S1536x1536.size a ≤ S49152x1536.size a := fun v313 k0_hw15 => k0_hw15.2

def k0_off24 (v355 : BitVec 32) : Fin 2 → Nat :=
  let c1536_i32_318 : BitVec 32 := 1536#32
  let v357 : BitVec 32 := Scalar.muli v355 c1536_i32_318
  let c0_i32_323 : BitVec 32 := 0#32
  ![v357.toNat, 0]

def k0_dev19 (v3 : BitVec 32) : Nat :=
  let c0_i32_322 : BitVec 32 := 0#32
  let c1_i32_321 : BitVec 32 := 1#32
  let v358 : BitVec 32 := Scalar.muli v3 c1_i32_321
  let v359 : BitVec 32 := Scalar.addi c0_i32_322 v358
  v359.toNat
def k0_off25 (v366 : BitVec 32) : Fin 2 → Nat :=
  let c1536_i32_326 : BitVec 32 := 1536#32
  let v368 : BitVec 32 := Scalar.muli v366 c1536_i32_326
  let c0_i32_331 : BitVec 32 := 0#32
  ![v368.toNat, 0]

def k0_chk18 (v366 : BitVec 32) : Prop :=
  (∀ a, (k0_off25 v366) a + S1536x1536.size a ≤ S49152x1536.size a)
theorem k0_off25_inb : ∀ (v366 : BitVec 32) (k0_hw18 : k0_chk18 v366), ∀ a, (k0_off25 v366) a + S1536x1536.size a ≤ S49152x1536.size a := fun v366 k0_hw18 => k0_hw18

def k0_dev20 (v4 : BitVec 32) : Nat :=
  let c0_i32_330 : BitVec 32 := 0#32
  let c1_i32_329 : BitVec 32 := 1#32
  let v369 : BitVec 32 := Scalar.muli v4 c1_i32_329
  let v370 : BitVec 32 := Scalar.addi c0_i32_330 v369
  v370.toNat
def k0_off26 (v355 : BitVec 32) : Fin 2 → Nat :=
  let c1536_i32_317 : BitVec 32 := 1536#32
  let v356 : BitVec 32 := Scalar.muli v355 c1536_i32_317
  let c0_i32_347 : BitVec 32 := 0#32
  ![v356.toNat, 0]

def k0_chk17 (v355 : BitVec 32) : Prop :=
  (∀ a, (k0_off24 v355) a + S1536x1536.size a ≤ S49152x1536.size a) ∧
  (∀ a, (k0_off26 v355) a + S1536x1536.size a ≤ S49152x1536.size a)
theorem k0_off24_inb : ∀ (v355 : BitVec 32) (k0_hw17 : k0_chk17 v355), ∀ a, (k0_off24 v355) a + S1536x1536.size a ≤ S49152x1536.size a := fun v355 k0_hw17 => k0_hw17.1
theorem k0_off26_inb : ∀ (v355 : BitVec 32) (k0_hw17 : k0_chk17 v355), ∀ a, (k0_off26 v355) a + S1536x1536.size a ≤ S49152x1536.size a := fun v355 k0_hw17 => k0_hw17.2

def k0_off27 (v397 : BitVec 32) : Fin 2 → Nat :=
  let c1536_i32_356 : BitVec 32 := 1536#32
  let v399 : BitVec 32 := Scalar.muli v397 c1536_i32_356
  let c0_i32_361 : BitVec 32 := 0#32
  ![v399.toNat, 0]

def k0_dev21 (v3 : BitVec 32) : Nat :=
  let c0_i32_360 : BitVec 32 := 0#32
  let c1_i32_359 : BitVec 32 := 1#32
  let v400 : BitVec 32 := Scalar.muli v3 c1_i32_359
  let v401 : BitVec 32 := Scalar.addi c0_i32_360 v400
  v401.toNat
def k0_off28 (v408 : BitVec 32) : Fin 2 → Nat :=
  let c1536_i32_364 : BitVec 32 := 1536#32
  let v410 : BitVec 32 := Scalar.muli v408 c1536_i32_364
  let c0_i32_369 : BitVec 32 := 0#32
  ![v410.toNat, 0]

def k0_chk20 (v408 : BitVec 32) : Prop :=
  (∀ a, (k0_off28 v408) a + S1536x1536.size a ≤ S49152x1536.size a)
theorem k0_off28_inb : ∀ (v408 : BitVec 32) (k0_hw20 : k0_chk20 v408), ∀ a, (k0_off28 v408) a + S1536x1536.size a ≤ S49152x1536.size a := fun v408 k0_hw20 => k0_hw20

def k0_dev22 (v4 : BitVec 32) : Nat :=
  let c0_i32_368 : BitVec 32 := 0#32
  let c1_i32_367 : BitVec 32 := 1#32
  let v411 : BitVec 32 := Scalar.muli v4 c1_i32_367
  let v412 : BitVec 32 := Scalar.addi c0_i32_368 v411
  v412.toNat
def k0_off29 (v397 : BitVec 32) : Fin 2 → Nat :=
  let c1536_i32_355 : BitVec 32 := 1536#32
  let v398 : BitVec 32 := Scalar.muli v397 c1536_i32_355
  let c0_i32_385 : BitVec 32 := 0#32
  ![v398.toNat, 0]

def k0_chk19 (v397 : BitVec 32) : Prop :=
  (∀ a, (k0_off27 v397) a + S1536x1536.size a ≤ S49152x1536.size a) ∧
  (∀ a, (k0_off29 v397) a + S1536x1536.size a ≤ S49152x1536.size a)
theorem k0_off27_inb : ∀ (v397 : BitVec 32) (k0_hw19 : k0_chk19 v397), ∀ a, (k0_off27 v397) a + S1536x1536.size a ≤ S49152x1536.size a := fun v397 k0_hw19 => k0_hw19.1
theorem k0_off29_inb : ∀ (v397 : BitVec 32) (k0_hw19 : k0_chk19 v397), ∀ a, (k0_off29 v397) a + S1536x1536.size a ≤ S49152x1536.size a := fun v397 k0_hw19 => k0_hw19.2

def k0_off30 (v439 : BitVec 32) : Fin 2 → Nat :=
  let c1536_i32_394 : BitVec 32 := 1536#32
  let v441 : BitVec 32 := Scalar.muli v439 c1536_i32_394
  let c0_i32_399 : BitVec 32 := 0#32
  ![v441.toNat, 0]

def k0_dev23 (v3 : BitVec 32) : Nat :=
  let c0_i32_398 : BitVec 32 := 0#32
  let c1_i32_397 : BitVec 32 := 1#32
  let v442 : BitVec 32 := Scalar.muli v3 c1_i32_397
  let v443 : BitVec 32 := Scalar.addi c0_i32_398 v442
  v443.toNat
def k0_off31 (v450 : BitVec 32) : Fin 2 → Nat :=
  let c1536_i32_402 : BitVec 32 := 1536#32
  let v452 : BitVec 32 := Scalar.muli v450 c1536_i32_402
  let c0_i32_407 : BitVec 32 := 0#32
  ![v452.toNat, 0]

def k0_chk22 (v450 : BitVec 32) : Prop :=
  (∀ a, (k0_off31 v450) a + S1536x1536.size a ≤ S49152x1536.size a)
theorem k0_off31_inb : ∀ (v450 : BitVec 32) (k0_hw22 : k0_chk22 v450), ∀ a, (k0_off31 v450) a + S1536x1536.size a ≤ S49152x1536.size a := fun v450 k0_hw22 => k0_hw22

def k0_dev24 (v4 : BitVec 32) : Nat :=
  let c0_i32_406 : BitVec 32 := 0#32
  let c1_i32_405 : BitVec 32 := 1#32
  let v453 : BitVec 32 := Scalar.muli v4 c1_i32_405
  let v454 : BitVec 32 := Scalar.addi c0_i32_406 v453
  v454.toNat
def k0_off32 (v439 : BitVec 32) : Fin 2 → Nat :=
  let c1536_i32_393 : BitVec 32 := 1536#32
  let v440 : BitVec 32 := Scalar.muli v439 c1536_i32_393
  let c0_i32_423 : BitVec 32 := 0#32
  ![v440.toNat, 0]

def k0_chk21 (v439 : BitVec 32) : Prop :=
  (∀ a, (k0_off30 v439) a + S1536x1536.size a ≤ S49152x1536.size a) ∧
  (∀ a, (k0_off32 v439) a + S1536x1536.size a ≤ S49152x1536.size a)
theorem k0_off30_inb : ∀ (v439 : BitVec 32) (k0_hw21 : k0_chk21 v439), ∀ a, (k0_off30 v439) a + S1536x1536.size a ≤ S49152x1536.size a := fun v439 k0_hw21 => k0_hw21.1
theorem k0_off32_inb : ∀ (v439 : BitVec 32) (k0_hw21 : k0_chk21 v439), ∀ a, (k0_off32 v439) a + S1536x1536.size a ≤ S49152x1536.size a := fun v439 k0_hw21 => k0_hw21.2

def k0_off33 (v481 : BitVec 32) : Fin 2 → Nat :=
  let c1536_i32_432 : BitVec 32 := 1536#32
  let v483 : BitVec 32 := Scalar.muli v481 c1536_i32_432
  let c0_i32_437 : BitVec 32 := 0#32
  ![v483.toNat, 0]

def k0_dev25 (v3 : BitVec 32) : Nat :=
  let c0_i32_436 : BitVec 32 := 0#32
  let c1_i32_435 : BitVec 32 := 1#32
  let v484 : BitVec 32 := Scalar.muli v3 c1_i32_435
  let v485 : BitVec 32 := Scalar.addi c0_i32_436 v484
  v485.toNat
def k0_off34 (v492 : BitVec 32) : Fin 2 → Nat :=
  let c1536_i32_440 : BitVec 32 := 1536#32
  let v494 : BitVec 32 := Scalar.muli v492 c1536_i32_440
  let c0_i32_445 : BitVec 32 := 0#32
  ![v494.toNat, 0]

def k0_chk24 (v492 : BitVec 32) : Prop :=
  (∀ a, (k0_off34 v492) a + S1536x1536.size a ≤ S49152x1536.size a)
theorem k0_off34_inb : ∀ (v492 : BitVec 32) (k0_hw24 : k0_chk24 v492), ∀ a, (k0_off34 v492) a + S1536x1536.size a ≤ S49152x1536.size a := fun v492 k0_hw24 => k0_hw24

def k0_dev26 (v4 : BitVec 32) : Nat :=
  let c0_i32_444 : BitVec 32 := 0#32
  let c1_i32_443 : BitVec 32 := 1#32
  let v495 : BitVec 32 := Scalar.muli v4 c1_i32_443
  let v496 : BitVec 32 := Scalar.addi c0_i32_444 v495
  v496.toNat
def k0_off35 (v481 : BitVec 32) : Fin 2 → Nat :=
  let c1536_i32_431 : BitVec 32 := 1536#32
  let v482 : BitVec 32 := Scalar.muli v481 c1536_i32_431
  let c0_i32_461 : BitVec 32 := 0#32
  ![v482.toNat, 0]

def k0_chk23 (v481 : BitVec 32) : Prop :=
  (∀ a, (k0_off33 v481) a + S1536x1536.size a ≤ S49152x1536.size a) ∧
  (∀ a, (k0_off35 v481) a + S1536x1536.size a ≤ S49152x1536.size a)
theorem k0_off33_inb : ∀ (v481 : BitVec 32) (k0_hw23 : k0_chk23 v481), ∀ a, (k0_off33 v481) a + S1536x1536.size a ≤ S49152x1536.size a := fun v481 k0_hw23 => k0_hw23.1
theorem k0_off35_inb : ∀ (v481 : BitVec 32) (k0_hw23 : k0_chk23 v481), ∀ a, (k0_off35 v481) a + S1536x1536.size a ≤ S49152x1536.size a := fun v481 k0_hw23 => k0_hw23.2

def k0_off36 (v523 : BitVec 32) : Fin 2 → Nat :=
  let c1536_i32_470 : BitVec 32 := 1536#32
  let v525 : BitVec 32 := Scalar.muli v523 c1536_i32_470
  let c0_i32_475 : BitVec 32 := 0#32
  ![v525.toNat, 0]

def k0_dev27 (v3 : BitVec 32) : Nat :=
  let c0_i32_474 : BitVec 32 := 0#32
  let c1_i32_473 : BitVec 32 := 1#32
  let v526 : BitVec 32 := Scalar.muli v3 c1_i32_473
  let v527 : BitVec 32 := Scalar.addi c0_i32_474 v526
  v527.toNat
def k0_off37 (v534 : BitVec 32) : Fin 2 → Nat :=
  let c1536_i32_478 : BitVec 32 := 1536#32
  let v536 : BitVec 32 := Scalar.muli v534 c1536_i32_478
  let c0_i32_483 : BitVec 32 := 0#32
  ![v536.toNat, 0]

def k0_chk26 (v534 : BitVec 32) : Prop :=
  (∀ a, (k0_off37 v534) a + S1536x1536.size a ≤ S49152x1536.size a)
theorem k0_off37_inb : ∀ (v534 : BitVec 32) (k0_hw26 : k0_chk26 v534), ∀ a, (k0_off37 v534) a + S1536x1536.size a ≤ S49152x1536.size a := fun v534 k0_hw26 => k0_hw26

def k0_dev28 (v4 : BitVec 32) : Nat :=
  let c0_i32_482 : BitVec 32 := 0#32
  let c1_i32_481 : BitVec 32 := 1#32
  let v537 : BitVec 32 := Scalar.muli v4 c1_i32_481
  let v538 : BitVec 32 := Scalar.addi c0_i32_482 v537
  v538.toNat
def k0_off38 (v523 : BitVec 32) : Fin 2 → Nat :=
  let c1536_i32_469 : BitVec 32 := 1536#32
  let v524 : BitVec 32 := Scalar.muli v523 c1536_i32_469
  let c0_i32_499 : BitVec 32 := 0#32
  ![v524.toNat, 0]

def k0_chk25 (v523 : BitVec 32) : Prop :=
  (∀ a, (k0_off36 v523) a + S1536x1536.size a ≤ S49152x1536.size a) ∧
  (∀ a, (k0_off38 v523) a + S1536x1536.size a ≤ S49152x1536.size a)
theorem k0_off36_inb : ∀ (v523 : BitVec 32) (k0_hw25 : k0_chk25 v523), ∀ a, (k0_off36 v523) a + S1536x1536.size a ≤ S49152x1536.size a := fun v523 k0_hw25 => k0_hw25.1
theorem k0_off38_inb : ∀ (v523 : BitVec 32) (k0_hw25 : k0_chk25 v523), ∀ a, (k0_off38 v523) a + S1536x1536.size a ≤ S49152x1536.size a := fun v523 k0_hw25 => k0_hw25.2

def k0_off39 (v565 : BitVec 32) : Fin 2 → Nat :=
  let c1536_i32_508 : BitVec 32 := 1536#32
  let v567 : BitVec 32 := Scalar.muli v565 c1536_i32_508
  let c0_i32_513 : BitVec 32 := 0#32
  ![v567.toNat, 0]

def k0_dev29 (v3 : BitVec 32) : Nat :=
  let c0_i32_512 : BitVec 32 := 0#32
  let c1_i32_511 : BitVec 32 := 1#32
  let v568 : BitVec 32 := Scalar.muli v3 c1_i32_511
  let v569 : BitVec 32 := Scalar.addi c0_i32_512 v568
  v569.toNat
def k0_off40 (v576 : BitVec 32) : Fin 2 → Nat :=
  let c1536_i32_516 : BitVec 32 := 1536#32
  let v578 : BitVec 32 := Scalar.muli v576 c1536_i32_516
  let c0_i32_521 : BitVec 32 := 0#32
  ![v578.toNat, 0]

def k0_chk28 (v576 : BitVec 32) : Prop :=
  (∀ a, (k0_off40 v576) a + S1536x1536.size a ≤ S49152x1536.size a)
theorem k0_off40_inb : ∀ (v576 : BitVec 32) (k0_hw28 : k0_chk28 v576), ∀ a, (k0_off40 v576) a + S1536x1536.size a ≤ S49152x1536.size a := fun v576 k0_hw28 => k0_hw28

def k0_dev30 (v4 : BitVec 32) : Nat :=
  let c0_i32_520 : BitVec 32 := 0#32
  let c1_i32_519 : BitVec 32 := 1#32
  let v579 : BitVec 32 := Scalar.muli v4 c1_i32_519
  let v580 : BitVec 32 := Scalar.addi c0_i32_520 v579
  v580.toNat
def k0_off41 (v565 : BitVec 32) : Fin 2 → Nat :=
  let c1536_i32_507 : BitVec 32 := 1536#32
  let v566 : BitVec 32 := Scalar.muli v565 c1536_i32_507
  let c0_i32_537 : BitVec 32 := 0#32
  ![v566.toNat, 0]

def k0_chk27 (v565 : BitVec 32) : Prop :=
  (∀ a, (k0_off39 v565) a + S1536x1536.size a ≤ S49152x1536.size a) ∧
  (∀ a, (k0_off41 v565) a + S1536x1536.size a ≤ S49152x1536.size a)
theorem k0_off39_inb : ∀ (v565 : BitVec 32) (k0_hw27 : k0_chk27 v565), ∀ a, (k0_off39 v565) a + S1536x1536.size a ≤ S49152x1536.size a := fun v565 k0_hw27 => k0_hw27.1
theorem k0_off41_inb : ∀ (v565 : BitVec 32) (k0_hw27 : k0_chk27 v565), ∀ a, (k0_off41 v565) a + S1536x1536.size a ≤ S49152x1536.size a := fun v565 k0_hw27 => k0_hw27.2

def k0_off42 (v607 : BitVec 32) : Fin 2 → Nat :=
  let c1536_i32_546 : BitVec 32 := 1536#32
  let v609 : BitVec 32 := Scalar.muli v607 c1536_i32_546
  let c0_i32_551 : BitVec 32 := 0#32
  ![v609.toNat, 0]

def k0_dev31 (v3 : BitVec 32) : Nat :=
  let c0_i32_550 : BitVec 32 := 0#32
  let c1_i32_549 : BitVec 32 := 1#32
  let v610 : BitVec 32 := Scalar.muli v3 c1_i32_549
  let v611 : BitVec 32 := Scalar.addi c0_i32_550 v610
  v611.toNat
def k0_off43 (v618 : BitVec 32) : Fin 2 → Nat :=
  let c1536_i32_554 : BitVec 32 := 1536#32
  let v620 : BitVec 32 := Scalar.muli v618 c1536_i32_554
  let c0_i32_559 : BitVec 32 := 0#32
  ![v620.toNat, 0]

def k0_chk30 (v618 : BitVec 32) : Prop :=
  (∀ a, (k0_off43 v618) a + S1536x1536.size a ≤ S49152x1536.size a)
theorem k0_off43_inb : ∀ (v618 : BitVec 32) (k0_hw30 : k0_chk30 v618), ∀ a, (k0_off43 v618) a + S1536x1536.size a ≤ S49152x1536.size a := fun v618 k0_hw30 => k0_hw30

def k0_dev32 (v4 : BitVec 32) : Nat :=
  let c0_i32_558 : BitVec 32 := 0#32
  let c1_i32_557 : BitVec 32 := 1#32
  let v621 : BitVec 32 := Scalar.muli v4 c1_i32_557
  let v622 : BitVec 32 := Scalar.addi c0_i32_558 v621
  v622.toNat

def k0_chk1 (v4 : BitVec 32) : Prop :=
  ((k0_dev1 v4) < nD) ∧
  ((k0_dev4 v4) < nD) ∧
  ((k0_dev6 v4) < nD) ∧
  ((k0_dev8 v4) < nD) ∧
  ((k0_dev10 v4) < nD) ∧
  ((k0_dev12 v4) < nD) ∧
  ((k0_dev14 v4) < nD) ∧
  ((k0_dev16 v4) < nD) ∧
  ((k0_dev18 v4) < nD) ∧
  ((k0_dev20 v4) < nD) ∧
  ((k0_dev22 v4) < nD) ∧
  ((k0_dev24 v4) < nD) ∧
  ((k0_dev26 v4) < nD) ∧
  ((k0_dev28 v4) < nD) ∧
  ((k0_dev30 v4) < nD) ∧
  ((k0_dev32 v4) < nD)
theorem k0_dev1_lt : ∀ (v4 : BitVec 32) (k0_hw1 : k0_chk1 v4), (k0_dev1 v4) < nD := fun v4 k0_hw1 => k0_hw1.1
theorem k0_dev4_lt : ∀ (v4 : BitVec 32) (k0_hw1 : k0_chk1 v4), (k0_dev4 v4) < nD := fun v4 k0_hw1 => k0_hw1.2.1
theorem k0_dev6_lt : ∀ (v4 : BitVec 32) (k0_hw1 : k0_chk1 v4), (k0_dev6 v4) < nD := fun v4 k0_hw1 => k0_hw1.2.2.1
theorem k0_dev8_lt : ∀ (v4 : BitVec 32) (k0_hw1 : k0_chk1 v4), (k0_dev8 v4) < nD := fun v4 k0_hw1 => k0_hw1.2.2.2.1
theorem k0_dev10_lt : ∀ (v4 : BitVec 32) (k0_hw1 : k0_chk1 v4), (k0_dev10 v4) < nD := fun v4 k0_hw1 => k0_hw1.2.2.2.2.1
theorem k0_dev12_lt : ∀ (v4 : BitVec 32) (k0_hw1 : k0_chk1 v4), (k0_dev12 v4) < nD := fun v4 k0_hw1 => k0_hw1.2.2.2.2.2.1
theorem k0_dev14_lt : ∀ (v4 : BitVec 32) (k0_hw1 : k0_chk1 v4), (k0_dev14 v4) < nD := fun v4 k0_hw1 => k0_hw1.2.2.2.2.2.2.1
theorem k0_dev16_lt : ∀ (v4 : BitVec 32) (k0_hw1 : k0_chk1 v4), (k0_dev16 v4) < nD := fun v4 k0_hw1 => k0_hw1.2.2.2.2.2.2.2.1
theorem k0_dev18_lt : ∀ (v4 : BitVec 32) (k0_hw1 : k0_chk1 v4), (k0_dev18 v4) < nD := fun v4 k0_hw1 => k0_hw1.2.2.2.2.2.2.2.2.1
theorem k0_dev20_lt : ∀ (v4 : BitVec 32) (k0_hw1 : k0_chk1 v4), (k0_dev20 v4) < nD := fun v4 k0_hw1 => k0_hw1.2.2.2.2.2.2.2.2.2.1
theorem k0_dev22_lt : ∀ (v4 : BitVec 32) (k0_hw1 : k0_chk1 v4), (k0_dev22 v4) < nD := fun v4 k0_hw1 => k0_hw1.2.2.2.2.2.2.2.2.2.2.1
theorem k0_dev24_lt : ∀ (v4 : BitVec 32) (k0_hw1 : k0_chk1 v4), (k0_dev24 v4) < nD := fun v4 k0_hw1 => k0_hw1.2.2.2.2.2.2.2.2.2.2.2.1
theorem k0_dev26_lt : ∀ (v4 : BitVec 32) (k0_hw1 : k0_chk1 v4), (k0_dev26 v4) < nD := fun v4 k0_hw1 => k0_hw1.2.2.2.2.2.2.2.2.2.2.2.2.1
theorem k0_dev28_lt : ∀ (v4 : BitVec 32) (k0_hw1 : k0_chk1 v4), (k0_dev28 v4) < nD := fun v4 k0_hw1 => k0_hw1.2.2.2.2.2.2.2.2.2.2.2.2.2.1
theorem k0_dev30_lt : ∀ (v4 : BitVec 32) (k0_hw1 : k0_chk1 v4), (k0_dev30 v4) < nD := fun v4 k0_hw1 => k0_hw1.2.2.2.2.2.2.2.2.2.2.2.2.2.2.1
theorem k0_dev32_lt : ∀ (v4 : BitVec 32) (k0_hw1 : k0_chk1 v4), (k0_dev32 v4) < nD := fun v4 k0_hw1 => k0_hw1.2.2.2.2.2.2.2.2.2.2.2.2.2.2.2

def k0_off44 (v607 : BitVec 32) : Fin 2 → Nat :=
  let c1536_i32_545 : BitVec 32 := 1536#32
  let v608 : BitVec 32 := Scalar.muli v607 c1536_i32_545
  let c0_i32_575 : BitVec 32 := 0#32
  ![v608.toNat, 0]

def k0_chk29 (v607 : BitVec 32) : Prop :=
  (∀ a, (k0_off42 v607) a + S1536x1536.size a ≤ S49152x1536.size a) ∧
  (∀ a, (k0_off44 v607) a + S1536x1536.size a ≤ S49152x1536.size a)
theorem k0_off42_inb : ∀ (v607 : BitVec 32) (k0_hw29 : k0_chk29 v607), ∀ a, (k0_off42 v607) a + S1536x1536.size a ≤ S49152x1536.size a := fun v607 k0_hw29 => k0_hw29.1
theorem k0_off44_inb : ∀ (v607 : BitVec 32) (k0_hw29 : k0_chk29 v607), ∀ a, (k0_off44 v607) a + S1536x1536.size a ≤ S49152x1536.size a := fun v607 k0_hw29 => k0_hw29.2

def k0_off45 (v649 : BitVec 32) : Fin 2 → Nat :=
  let c1536_i32_584 : BitVec 32 := 1536#32
  let v651 : BitVec 32 := Scalar.muli v649 c1536_i32_584
  let c0_i32_589 : BitVec 32 := 0#32
  ![v651.toNat, 0]

def k0_chk31 (v649 : BitVec 32) : Prop :=
  (∀ a, (k0_off45 v649) a + S1536x1536.size a ≤ S49152x1536.size a)
theorem k0_off45_inb : ∀ (v649 : BitVec 32) (k0_hw31 : k0_chk31 v649), ∀ a, (k0_off45 v649) a + S1536x1536.size a ≤ S49152x1536.size a := fun v649 k0_hw31 => k0_hw31

def k0_dev33 (v3 : BitVec 32) : Nat :=
  let c0_i32_588 : BitVec 32 := 0#32
  let c1_i32_587 : BitVec 32 := 1#32
  let v652 : BitVec 32 := Scalar.muli v3 c1_i32_587
  let v653 : BitVec 32 := Scalar.addi c0_i32_588 v652
  v653.toNat

def k0_chk2 (v3 : BitVec 32) : Prop :=
  ((k0_dev2 v3) < nD) ∧
  ((k0_dev3 v3) < nD) ∧
  ((k0_dev5 v3) < nD) ∧
  ((k0_dev7 v3) < nD) ∧
  ((k0_dev9 v3) < nD) ∧
  ((k0_dev11 v3) < nD) ∧
  ((k0_dev13 v3) < nD) ∧
  ((k0_dev15 v3) < nD) ∧
  ((k0_dev17 v3) < nD) ∧
  ((k0_dev19 v3) < nD) ∧
  ((k0_dev21 v3) < nD) ∧
  ((k0_dev23 v3) < nD) ∧
  ((k0_dev25 v3) < nD) ∧
  ((k0_dev27 v3) < nD) ∧
  ((k0_dev29 v3) < nD) ∧
  ((k0_dev31 v3) < nD) ∧
  ((k0_dev33 v3) < nD)
theorem k0_dev2_lt : ∀ (v3 : BitVec 32) (k0_hw2 : k0_chk2 v3), (k0_dev2 v3) < nD := fun v3 k0_hw2 => k0_hw2.1
theorem k0_dev3_lt : ∀ (v3 : BitVec 32) (k0_hw2 : k0_chk2 v3), (k0_dev3 v3) < nD := fun v3 k0_hw2 => k0_hw2.2.1
theorem k0_dev5_lt : ∀ (v3 : BitVec 32) (k0_hw2 : k0_chk2 v3), (k0_dev5 v3) < nD := fun v3 k0_hw2 => k0_hw2.2.2.1
theorem k0_dev7_lt : ∀ (v3 : BitVec 32) (k0_hw2 : k0_chk2 v3), (k0_dev7 v3) < nD := fun v3 k0_hw2 => k0_hw2.2.2.2.1
theorem k0_dev9_lt : ∀ (v3 : BitVec 32) (k0_hw2 : k0_chk2 v3), (k0_dev9 v3) < nD := fun v3 k0_hw2 => k0_hw2.2.2.2.2.1
theorem k0_dev11_lt : ∀ (v3 : BitVec 32) (k0_hw2 : k0_chk2 v3), (k0_dev11 v3) < nD := fun v3 k0_hw2 => k0_hw2.2.2.2.2.2.1
theorem k0_dev13_lt : ∀ (v3 : BitVec 32) (k0_hw2 : k0_chk2 v3), (k0_dev13 v3) < nD := fun v3 k0_hw2 => k0_hw2.2.2.2.2.2.2.1
theorem k0_dev15_lt : ∀ (v3 : BitVec 32) (k0_hw2 : k0_chk2 v3), (k0_dev15 v3) < nD := fun v3 k0_hw2 => k0_hw2.2.2.2.2.2.2.2.1
theorem k0_dev17_lt : ∀ (v3 : BitVec 32) (k0_hw2 : k0_chk2 v3), (k0_dev17 v3) < nD := fun v3 k0_hw2 => k0_hw2.2.2.2.2.2.2.2.2.1
theorem k0_dev19_lt : ∀ (v3 : BitVec 32) (k0_hw2 : k0_chk2 v3), (k0_dev19 v3) < nD := fun v3 k0_hw2 => k0_hw2.2.2.2.2.2.2.2.2.2.1
theorem k0_dev21_lt : ∀ (v3 : BitVec 32) (k0_hw2 : k0_chk2 v3), (k0_dev21 v3) < nD := fun v3 k0_hw2 => k0_hw2.2.2.2.2.2.2.2.2.2.2.1
theorem k0_dev23_lt : ∀ (v3 : BitVec 32) (k0_hw2 : k0_chk2 v3), (k0_dev23 v3) < nD := fun v3 k0_hw2 => k0_hw2.2.2.2.2.2.2.2.2.2.2.2.1
theorem k0_dev25_lt : ∀ (v3 : BitVec 32) (k0_hw2 : k0_chk2 v3), (k0_dev25 v3) < nD := fun v3 k0_hw2 => k0_hw2.2.2.2.2.2.2.2.2.2.2.2.2.1
theorem k0_dev27_lt : ∀ (v3 : BitVec 32) (k0_hw2 : k0_chk2 v3), (k0_dev27 v3) < nD := fun v3 k0_hw2 => k0_hw2.2.2.2.2.2.2.2.2.2.2.2.2.2.1
theorem k0_dev29_lt : ∀ (v3 : BitVec 32) (k0_hw2 : k0_chk2 v3), (k0_dev29 v3) < nD := fun v3 k0_hw2 => k0_hw2.2.2.2.2.2.2.2.2.2.2.2.2.2.2.1
theorem k0_dev31_lt : ∀ (v3 : BitVec 32) (k0_hw2 : k0_chk2 v3), (k0_dev31 v3) < nD := fun v3 k0_hw2 => k0_hw2.2.2.2.2.2.2.2.2.2.2.2.2.2.2.2.1
theorem k0_dev33_lt : ∀ (v3 : BitVec 32) (k0_hw2 : k0_chk2 v3), (k0_dev33 v3) < nD := fun v3 k0_hw2 => k0_hw2.2.2.2.2.2.2.2.2.2.2.2.2.2.2.2.2

abbrev stage0_0 : Fin 1 → Memref sig .tc .smem S33 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S49152x768 : Shape := ⟨2, ![49152, 768]⟩
abbrev S768x1536 : Shape := ⟨2, ![768, 1536]⟩
abbrev S49152x1536 : Shape := ⟨2, ![49152, 1536]⟩

abbrev nBuf : Space → Nat
  | .hbm => 3
  | .vmem => 0
  | .smem => 0
  | _ => 0

abbrev bufTy : (tb : Table) → Fin (tcTables nBuf tb) → BufTy
  | .hbm, ⟨0, _⟩ => ⟨S49152x768, .f32⟩
  | .hbm, ⟨1, _⟩ => ⟨S768x1536, .f32⟩
  | .hbm, ⟨2, _⟩ => ⟨S49152x1536, .f32⟩
  | _, _ => ⟨S49152x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Loop.lean ====
module

public import proofs.«01_k».proof.Proof.Gen.KernelIdeal.Skeleton

/-! # The kernel's body as a loop over the hops

The printed body is one straight line of steps. Here it is read as what it is: a prologue (the table's
first two words, the chunk's product, its copy into the result, the barrier), the first hop in both
directions, fourteen further hops in both directions, and a last hop to the right only. -/

@[expose] public section

set_option maxRecDepth 16384

noncomputable section

namespace Cert.KernelIdeal.RingProof

open Cert.KernelIdeal.Gen
open Idealize.ShloMosaic Idealize.SL.Sem

variable {F : FTy → Type} [FloatOps F]

/-- The programs of the kernel's body. -/
abbrev Body (F : FTy → Type) [FloatOps F] := Prog (TpuEff nD τ sig (Elt F) Λ₀ .tc)

/-- The block of 1536 rows of the result at the row offset `o`. -/
abbrev blkAt (arg3 : Memref sig .tc .hbm S49152x1536 .f32) (o : Fin 2 → Nat)
    (ho : ∀ a, o a + S1536x1536.size a ≤ S49152x1536.size a) : Memref sig .tc .hbm S1536x1536 .f32 :=
  arg3.slice (Rect.unit (s := S49152x1536) o S1536x1536.size ho) (fun _ => rfl)

theorem inb2 (h : ℕ) : ∀ a, (![h % 2] : Fin 1 → Nat) a + S1.size a ≤ S2.size a := fun a => by
  fin_cases a
  change h % 2 + 1 ≤ 2
  omega

/-- The semaphore of a pair which hop `h` uses: the one of `h`'s parity. -/
abbrev semAt (m : DmaSems sig S2) (h : ℕ) : DmaSems sig S_ :=
  (m.slice (Rect.unit (s := S2) ![h % 2] S1.size (inb2 h))).squeeze S_ squeezes_S1_S_

/-- Starts a transfer of the block at `o` to the same rows on device `n`. -/
def startHop (arg3 : Memref sig .tc .hbm S49152x1536 .f32) (ms mr : DmaSems sig S2) (h : ℕ) (n : Dev nD) (o : Fin 2 → Nat)
    (ho : ∀ a, o a + S1536x1536.size a ≤ S49152x1536.size a) : Body F Unit :=
  Prog.lift (.enqueueDma (blkAt arg3 o ho) (.remote (Dev.tc n) (blkAt arg3 o ho) (.dma (semAt ms h).sem)) (.dma (semAt mr h).sem)
    (View.wordExact_bits rfl) (View.wordExact_bits rfl) ⟨⟨rfl, Or.inl rfl⟩, trivial⟩)

/-- Waits for one block's transfer on the semaphore of hop `h`. -/
def waitHop (arg3 : Memref sig .tc .hbm S49152x1536 .f32) (m : DmaSems sig S2) (h : ℕ) (o : Fin 2 → Nat)
    (ho : ∀ a, o a + S1536x1536.size a ≤ S49152x1536.size a) : Body F Unit :=
  Prog.lift (.waitDma2 (semAt m h).sem (blkAt arg3 o ho) (blkAt arg3 o ho) (View.wordExact_bits rfl) (View.wordExact_bits rfl))

/-- The table's word `i`. -/
def word (arg0 : Memref sig .tc .smem S33 .i32) (i : ℕ) (hi : ∀ a, (![i] : Fin 1 → Nat) a + S1.size a ≤ S33.size a) :
    Body F (Elt F .i32) :=
  smemLoad arg0 (Rect.unit (s := S33) ![i] S1.size hi) numel1_S1 rfl

theorem inb33 {i : ℕ} (h : i < 33) : ∀ a, (![i] : Fin 1 → Nat) a + S1.size a ≤ S33.size a := fun a => by
  fin_cases a
  change i + 1 ≤ 33
  omega

/-- One hop in both directions: the blocks the table names go on, and the four waits follow. -/
def hop (arg0 : Memref sig .tc .smem S33 .i32) (arg3 : Memref sig .tc .hbm S49152x1536 .f32)
    (arg6 arg7 arg8 arg9 : DmaSems sig S2) (R Lf : Dev nD) (h : ℕ) (h1 : 1 + h < 33) (h2 : 17 + h < 33) : Body F Unit := do
  let v ← word arg0 (1 + h) (inb33 h1)
  let c := (← Prog.lift (TpuEff.assume (k0_chk3 v) (k0_chk3.dec v))).down
  startHop arg3 arg6 arg7 h R (k0_off3 v) (k0_off3_inb v c)
  let w ← word arg0 (17 + h) (inb33 h2)
  let e := (← Prog.lift (TpuEff.assume (k0_chk4 w) (k0_chk4.dec w))).down
  startHop arg3 arg8 arg9 h Lf (k0_off4 w) (k0_off4_inb w e)
  waitHop arg3 arg8 h (k0_off4 w) (k0_off4_inb w e)
  waitHop arg3 arg9 h (k0_off4 w) (k0_off4_inb w e)
  waitHop arg3 arg6 h (k0_off3 v) (k0_off3_inb v c)
  waitHop arg3 arg7 h (k0_off3 v) (k0_off3_inb v c)

/-- The last hop: to the right only. -/
def lastHop (arg0 : Memref sig .tc .smem S33 .i32) (arg3 : Memref sig .tc .hbm S49152x1536 .f32)
    (arg6 arg7 : DmaSems sig S2) (R : Dev nD) : Body F Unit := do
  let v ← word arg0 16 (inb33 (by omega))
  let c := (← Prog.lift (TpuEff.assume (k0_chk4 v) (k0_chk4.dec v))).down
  startHop arg3 arg6 arg7 15 R (k0_off4 v) (k0_off4_inb v c)
  waitHop arg3 arg6 15 (k0_off4 v) (k0_off4_inb v c)
  waitHop arg3 arg7 15 (k0_off4 v) (k0_off4_inb v c)

/-- The hops from `h` on, `n` of them in both directions and then the last. -/
def hops (arg0 : Memref sig .tc .smem S33 .i32) (arg3 : Memref sig .tc .hbm S49152x1536 .f32)
    (arg6 arg7 arg8 arg9 : DmaSems sig S2) (R Lf : Dev nD) : (n h : ℕ) → n + h < 16 → Body F Unit
  | 0, _, _ => lastHop arg0 arg3 arg6 arg7 R
  | n + 1, h, hn => do
    hop arg0 arg3 arg6 arg7 arg8 arg9 R Lf h (by omega) (by omega)
    hops arg0 arg3 arg6 arg7 arg8 arg9 R Lf n (h + 1) (by omega)

/-- The first hop, in both directions: the device's own block. -/
def firstHop (arg3 : Memref sig .tc .hbm S49152x1536 .f32) (arg6 arg7 arg8 arg9 : DmaSems sig S2) (R Lf : Dev nD)
    (d : Dev nD) : Body F Unit := do
  startHop arg3 arg6 arg7 0 R (k0_off2 d) (k0_off2_inb d)
  startHop arg3 arg8 arg9 0 Lf (k0_off2 d) (k0_off2_inb d)
  waitHop arg3 arg8 0 (k0_off2 d) (k0_off2_inb d)
  waitHop arg3 arg9 0 (k0_off2 d) (k0_off2_inb d)
  waitHop arg3 arg6 0 (k0_off2 d) (k0_off2_inb d)
  waitHop arg3 arg7 0 (k0_off2 d) (k0_off2_inb d)

/-- The chunk's product, stored into the scratch buffer and copied into the device's own block. -/
def chunk (arg1 : Memref sig .tc .vmem S1536x768 .f32) (arg2 : Memref sig .tc .vmem S768x1536 .f32)
    (arg3 : Memref sig .tc .hbm S49152x1536 .f32) (arg4 : Memref sig .tc .vmem S1536x1536 .f32) (harg4 : arg4.IsWhole)
    (arg5 : DmaSems sig S_) (d : Dev nD) : Body F Unit := do
  let a : Vec F S1536x768 .f32 ← Prog.lift (.load arg1 (Rect.unit (s := S1536x768) ![0, 0] S1536x768.size inb_S1536x768_S1536x768_0_0).toLoadRect (View.loadsAt_vmem h_S1536x768))
  let b : Vec F S768x1536 .f32 ← Prog.lift (.load arg2 (Rect.unit (s := S768x1536) ![0, 0] S768x1536.size inb_S768x1536_S768x1536_0_0).toLoadRect (View.loadsAt_vmem h_S768x1536))
  let _ : Vec F S1536x1536 .f32 ← Prog.lift (.load arg4 (Rect.unit (s := S1536x1536) ![0, 0] S1536x1536.size inb_S1536x1536_S1536x1536_0_0).toLoadRect (View.loadsAt_vmem h_S1536x1536))
  Prog.lift (.store arg4 (Rect.unit (s := S1536x1536) ![0, 0] S1536x1536.size inb_S1536x1536_S1536x1536_0_0) (k0_pay1 a b) Finset.univ (View.stores_vmem_bits_univ h_S1536x1536 rfl) (.inl rfl))
  Prog.lift (.enqueueDma arg4 (.here (blkAt arg3 (k0_off1 d) (k0_off1_inb d))) (.dma arg5.sem) harg4.wordExact (View.wordExact_bits rfl) ⟨Or.inl rfl, trivial⟩)
  Prog.lift (.waitDma2 arg5.sem arg4 (blkAt arg3 (k0_off1 d) (k0_off1_inb d)) harg4.wordExact (View.wordExact_bits rfl))

/-- The barrier's semaphore. -/
abbrev barSem : Sem sig := (SemArray.scalar (sig.barrier 0 rfl) : Sems sig S_).sem

/-- The barrier between ring neighbours: one signal to each, and a wait for both of theirs. -/
def barrier (R Lf : Dev nD) : Body F Unit := do
  semSignalWord Lf barSem 1#32
  semSignalWord R barSem 1#32
  semWaitWord barSem 2#32

/-- The body: prologue, first hop, loop. -/
def loopBody (arg0 : Memref sig .tc .smem S33 .i32) (arg1 : Memref sig .tc .vmem S1536x768 .f32) (arg2 : Memref sig .tc .vmem S768x1536 .f32)
    (arg3 : Memref sig .tc .hbm S49152x1536 .f32) (arg4 : Memref sig .tc .vmem S1536x1536 .f32) (harg4 : arg4.IsWhole)
    (arg5 : DmaSems sig S_) (arg6 arg7 arg8 arg9 : DmaSems sig S2) : Body F Unit := do
  let d ← Prog.lift .deviceId
  let r ← word arg0 0 (inb33 (by omega))
  let hr := (← Prog.lift (TpuEff.assume (k0_chk2 r) (k0_chk2.dec r))).down
  let l ← word arg0 1 (inb33 (by omega))
  let hl := (← Prog.lift (TpuEff.assume (k0_chk1 l) (k0_chk1.dec l))).down
  chunk arg1 arg2 arg3 arg4 harg4 arg5 d
  barrier ⟨k0_dev3 r, k0_dev3_lt r hr⟩ ⟨k0_dev4 l, k0_dev4_lt l hl⟩
  firstHop arg3 arg6 arg7 arg8 arg9 ⟨k0_dev3 r, k0_dev3_lt r hr⟩ ⟨k0_dev4 l, k0_dev4_lt l hl⟩ d
  hops arg0 arg3 arg6 arg7 arg8 arg9 ⟨k0_dev3 r, k0_dev3_lt r hr⟩ ⟨k0_dev4 l, k0_dev4_lt l hl⟩ 14 1 (by omega)

set_option maxHeartbeats 4000000 in
set_option maxRecDepth 65536 in
/-- The printed body is the loop. -/
theorem body_eq (arg0 : Memref sig .tc .smem S33 .i32) (harg0 : arg0.IsWhole) (arg1 : Memref sig .tc .vmem S1536x768 .f32) (harg1 : arg1.IsWhole) (arg2 : Memref sig .tc .vmem S768x1536 .f32) (harg2 : arg2.IsWhole) (arg3 : Memref sig .tc .hbm S49152x1536 .f32) (harg3 : arg3.IsWhole) (arg4 : Memref sig .tc .vmem S1536x1536 .f32) (harg4 : arg4.IsWhole) (arg5 : DmaSems sig S_) (arg6 : DmaSems sig S2) (arg7 : DmaSems sig S2) (arg8 : DmaSems sig S2) (arg9 : DmaSems sig S2) :
    cc0_body (F := F) arg0 harg0 arg1 harg1 arg2 harg2 arg3 harg3 arg4 harg4 arg5 arg6 arg7 arg8 arg9
      = loopBody arg0 arg1 arg2 arg3 arg4 harg4 arg5 arg6 arg7 arg8 arg9 := rfl

end Cert.KernelIdeal.RingProof
-- ==== Proof.Ring.lean ====
module

public import proofs.«01_k».proof.Proof.Loop
public import proofs.«01_k».proof.Proof.Gen.KernelIdeal.Launch
public import proofs.«01_k».proof.Proof.Gen.KernelIdeal.Points
public import proofs.«01_k».proof.Proof.Gen.KernelIdeal.Regions

/-! # The ring, the blocks, and the cells

Devices stand on a ring of 32. Two streams of blocks run round it: the `true` stream to the right, 16 hops
long, and the `false` stream to the left, 15 hops long. At hop `h` of a stream a device sends on the block
`src s c h`: its own at hop 0, and at a later hop the one that came in at the hop before. -/

@[expose] public section

set_option maxRecDepth 16384

noncomputable section

namespace Cert.KernelIdeal.RingProof

open Cert.KernelIdeal.Gen
open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type} [FloatOps F]

/-! ## The ring -/

/-- The device at a place of the ring. -/
def devAt : Fin 32 → Dev nD :=
  ![0, 8, 16, 24, 27, 28, 31, 23, 20, 19, 11, 12, 15, 7, 4, 3, 2, 5, 6, 14, 13, 10, 18, 21, 22, 30, 29, 26, 25, 17, 9, 1]

/-- The place of a device on the ring. -/
def posF : Dev nD → Fin 32 :=
  ![0, 31, 16, 15, 14, 17, 18, 13, 1, 30, 21, 10, 11, 20, 19, 12, 2, 29, 22, 9, 8, 23, 24, 7, 3, 28, 27, 4, 5, 26, 25, 6]

theorem devAt_posF : ∀ c : Dev nD, devAt (posF c) = c := by decide +kernel
theorem posF_devAt : ∀ i : Fin 32, posF (devAt i) = i := by decide +kernel

/-- The device at place `n`, counted round the ring. -/
def ringAt (n : ℕ) : Dev nD := devAt ⟨n % 32, Nat.mod_lt _ (by decide)⟩
/-- A device's place, as a number. -/
def pos (c : Dev nD) : ℕ := (posF c).val

theorem pos_lt (c : Dev nD) : pos c < 32 := (posF c).isLt
theorem pos_ringAt (n : ℕ) : pos (ringAt n) = n % 32 := congrArg Fin.val (posF_devAt _)
theorem ringAt_pos (c : Dev nD) : ringAt (pos c) = c := by
  unfold ringAt pos
  rw [show (⟨(posF c).val % 32, Nat.mod_lt _ (by decide)⟩ : Fin 32) = posF c from Fin.ext (Nat.mod_eq_of_lt (posF c).isLt)]
  exact devAt_posF c
theorem ringAt_congr {n k : ℕ} (h : n % 32 = k % 32) : ringAt n = ringAt k := by
  unfold ringAt; exact congrArg devAt (Fin.ext h)
theorem ringAt_inj {n k : ℕ} (h : ringAt n = ringAt k) : n % 32 = k % 32 := by
  rw [← pos_ringAt, ← pos_ringAt, h]

/-- The neighbour a stream goes to: the right one, or the left one. -/
def nxt : Bool → Dev nD → Dev nD
  | true, c => ringAt (pos c + 1)
  | false, c => ringAt (pos c + 31)

/-- The block a device sends on at hop `h` of a stream (at the hop past the last: the last block that came in). -/
def src : Bool → Dev nD → ℕ → Dev nD
  | true, c, h => ringAt (pos c + 31 * h)
  | false, c, h => ringAt (pos c + h)

/-- The hops of a stream. -/
def len : Bool → ℕ
  | true => 16
  | false => 15

theorem len_le (s : Bool) : len s ≤ 16 := by cases s <;> decide
theorem len_ge (s : Bool) : 15 ≤ len s := by cases s <;> decide

theorem nxt_nxt (s : Bool) (c : Dev nD) : nxt (!s) (nxt s c) = c := by
  have := pos_lt c
  cases s <;> simp only [nxt, pos_ringAt, Bool.not_true, Bool.not_false] <;>
    exact (ringAt_congr (by omega)).trans (ringAt_pos c)
theorem nxt_nxt' (s : Bool) (c : Dev nD) : nxt s (nxt (!s) c) = c := by
  have h := nxt_nxt (!s) c
  rwa [Bool.not_not] at h

theorem src_zero (s : Bool) (c : Dev nD) : src s c 0 = c := by
  cases s <;> simp only [src, Nat.mul_zero, Nat.add_zero] <;> exact ringAt_pos c

/-- What a neighbour's stream sends at hop `h` is what comes in here for hop `h + 1`. -/
theorem src_succ (s : Bool) (c : Dev nD) (h : ℕ) : src s (nxt s c) (h + 1) = src s c h := by
  have := pos_lt c
  cases s <;> simp only [src, nxt, pos_ringAt] <;> exact ringAt_congr (by omega)

/-- The ring's step as an equivalence. -/
def step (s : Bool) : Dev nD ≃ Dev nD := ⟨nxt s, nxt (!s), nxt_nxt s, nxt_nxt' s⟩

/-! ## Blocks of the result -/

theorem blkInb (d : Dev nD) : ∀ a, (![1536 * d.val, 0] : Fin 2 → Nat) a + S1536x1536.size a ≤ S49152x1536.size a := fun a => by
  have hd : d.val < 32 := d.isLt
  fin_cases a
  · show 1536 * d.val + 1536 ≤ 49152
    omega
  · show 0 + 1536 ≤ 1536
    omega

/-- The result's buffer. -/
abbrev outM : Memref sig .tc .hbm S49152x1536 .f32 := Memref.whole main_v49
/-- Block `d` of the result: the 1536 rows of device `d`. -/
abbrev blkM (d : Dev nD) : Memref sig .tc .hbm S1536x1536 .f32 := blkAt outM ![1536 * d.val, 0] (blkInb d)
/-- The scratch chunk. -/
abbrev chkM : Memref sig .tc .vmem S1536x1536 .f32 := Memref.whole cc0_scratch0

/-- The units one block's transfer pays. -/
def N : ℕ := (blkM 0).view.dmaCredit

theorem N_pos : 0 < N := View.dmaCredit_pos _ (by decide)
theorem amount_blk (o : Fin 2 → Nat) (ho : ∀ a, o a + S1536x1536.size a ≤ S49152x1536.size a) (s : DmaSem sig) :
    (blkAt outM o ho).view.amount (.dma s) = N := rfl
theorem credit_blk (o : Fin 2 → Nat) (ho : ∀ a, o a + S1536x1536.size a ≤ S49152x1536.size a) :
    (blkAt outM o ho).view.dmaCredit = N := rfl

/-! ## The cells -/

/-- The send semaphores of a stream. -/
abbrev sndA : Bool → DmaSems sig S2
  | true => cc0_scratch2
  | false => cc0_scratch4
/-- The receive semaphores of a stream. -/
abbrev rcvA : Bool → DmaSems sig S2
  | true => cc0_scratch3
  | false => cc0_scratch5

abbrev bar (c : Dev nD) : GSem nD τ sig := ((c : Thread nD τ), .reg barSem)
abbrev cpy (c : Dev nD) : GSem nD τ sig := ((c : Thread nD τ), .dma cc0_scratch1.sem)
/-- The cell a device's hop `h` of a stream frees its source on. -/
abbrev snd (s : Bool) (c : Dev nD) (h : ℕ) : GSem nD τ sig := ((c : Thread nD τ), .dma (semAt (sndA s) h).sem)
/-- The cell the block that comes in at hop `h` of a stream lands on. -/
abbrev rcv (s : Bool) (c : Dev nD) (h : ℕ) : GSem nD τ sig := ((c : Thread nD τ), .dma (semAt (rcvA s) h).sem)

/-- What a semaphore is for. -/
inductive Kind where
  | other | bar | cpy | snd (s : Bool) | rcv (s : Bool)
  deriving DecidableEq

/-- The purpose of a semaphore, by its number. -/
def kind : SemLoc sig → Kind
  | .reg _ => .bar
  | .dma i => match i.val with
    | 3 => .cpy
    | 4 => .snd true
    | 5 => .snd true
    | 6 => .rcv true
    | 7 => .rcv true
    | 8 => .snd false
    | 9 => .snd false
    | 10 => .rcv false
    | 11 => .rcv false
    | _ => .other

/-- The parity of the hops which use a semaphore. -/
def par : SemLoc sig → ℕ
  | .reg _ => 0
  | .dma i => i.val % 2

theorem slice_congr (m : DmaSems sig S2) {a b : ℕ} (ha : ∀ i, (![a] : Fin 1 → Nat) i + S1.size i ≤ S2.size i)
    (hb : ∀ i, (![b] : Fin 1 → Nat) i + S1.size i ≤ S2.size i) (e : a = b) :
    ((m.slice (Rect.unit (s := S2) ![a] S1.size ha)).squeeze S_ squeezes_S1_S_).sem
      = ((m.slice (Rect.unit (s := S2) ![b] S1.size hb)).squeeze S_ squeezes_S1_S_).sem := by
  subst e; rfl

theorem semAt_congr (m : DmaSems sig S2) {h k : ℕ} (e : h % 2 = k % 2) : (semAt m h).sem = (semAt m k).sem :=
  slice_congr m _ _ e

theorem semAt_mod (m : DmaSems sig S2) (h : ℕ) : (semAt m h).sem = (semAt m (h % 2)).sem :=
  semAt_congr m (by omega)

theorem mod2 (h : ℕ) : h % 2 = 0 ∨ h % 2 = 1 := by omega

theorem kind_snd (s : Bool) (h : ℕ) : kind (.dma (semAt (sndA s) h).sem) = .snd s := by
  rw [semAt_mod]
  rcases mod2 h with e | e <;> rw [e] <;> cases s <;> rfl
theorem kind_rcv (s : Bool) (h : ℕ) : kind (.dma (semAt (rcvA s) h).sem) = .rcv s := by
  rw [semAt_mod]
  rcases mod2 h with e | e <;> rw [e] <;> cases s <;> rfl
theorem kind_cpy : kind (.dma cc0_scratch1.sem) = .cpy := rfl
theorem kind_bar : kind (.reg barSem) = .bar := rfl
theorem par_snd (s : Bool) (h : ℕ) : par (.dma (semAt (sndA s) h).sem) = h % 2 := by
  rw [semAt_mod]
  rcases mod2 h with e | e <;> rw [e] <;> cases s <;> rfl
theorem par_rcv (s : Bool) (h : ℕ) : par (.dma (semAt (rcvA s) h).sem) = h % 2 := by
  rw [semAt_mod]
  rcases mod2 h with e | e <;> rw [e] <;> cases s <;> rfl

theorem snd_add2 (s : Bool) (c : Dev nD) (h : ℕ) : snd s c (h + 2) = snd s c h := by
  rw [snd, snd, semAt_congr (sndA s) (show (h + 2) % 2 = h % 2 by omega)]
theorem rcv_add2 (s : Bool) (c : Dev nD) (h : ℕ) : rcv s c (h + 2) = rcv s c h := by
  rw [rcv, rcv, semAt_congr (rcvA s) (show (h + 2) % 2 = h % 2 by omega)]

end Cert.KernelIdeal.RingProof
-- ==== Proof.Sched.lean ====
module

public import proofs.«01_k».proof.Proof.Ring

/-! # The schedule: who pays which cell, and what the payment hands over

A barrier cell has one round of two duties: each neighbour signals once. The other cells have one duty a round.
A send cell's round hands the source block back, a receive cell's round the block that landed, beside the news
that the neighbour it came from is ready for the next hop of the opposite stream. Every block is named at the
contents of the final result. -/

@[expose] public section

set_option maxRecDepth 16384

noncomputable section

namespace Cert.KernelIdeal.RingProof

open Cert.KernelIdeal.Gen
open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type} [FloatOps F]

/-- The pipeline's rounds, and the ring's. -/
abbrev UU : Type := UR sig nD τ × URounds (GSem nD τ sig) Bool

local notation "𝕄" => MT nD τ sig ℕ (Elt F) ℕ UU ℕ

abbrev EP : Emb (UR sig nD τ) (MT nD τ sig ℕ (Elt F) ℕ UU ℕ) := embL
abbrev ER : Emb (URounds (GSem nD τ sig) Bool) (MT nD τ sig ℕ (Elt F) ℕ UU ℕ) := embR

/-- The contents of a result buffer. -/
abbrev Out (F : FTy → Type) := (main_v49 : Ref sig .tc).ty.Contents (Elt F)
/-- The contents of the scratch chunk. -/
abbrev Chk (F : FTy → Type) := (cc0_scratch0 : Ref sig .tc).ty.Contents (Elt F)

/-- Block `d` of device `c`'s result, a share of it, at contents `f`. -/
abbrev blk (c d : Dev nD) (q : PosShare TreeShare) (f : Out F) : sProp 𝕄 :=
  (blkM d).view.loc (c : Thread nD τ) ↦[(blkM d).view.set]{q} f
/-- The scratch chunk at contents `f`. -/
abbrev chk (c : Dev nD) (f : Chk F) : sProp 𝕄 :=
  chkM.view.loc (c : Thread nD τ) ↦[chkM.view.set]{fullShare} f

/-- Block `d` of a device's result, whole, at contents not chosen. -/
abbrev blkAny (c d : Dev nD) : sProp 𝕄 := iprop(∃ f : Out F, blk c d fullShare f)

/-- The share of the source a hop reads: the two first hops read the same block and take half of it each. -/
def shr : Bool → ℕ → PosShare TreeShare
  | true, 0 => fullShare.left
  | false, 0 => fullShare.right
  | _, _ + 1 => fullShare

theorem shr_succ (s : Bool) (h : ℕ) : shr s (h + 1) = fullShare := by cases s <;> rfl

variable (fin : Out F) (own : Dev nD → Chk F)

/-- Paid to `c`'s barrier cell by its neighbour on stream `s`: the blocks `c` will write there, and that the
    neighbour's first receive cell is open. -/
def barPay (c : Dev nD) (s : Bool) : sProp 𝕄 :=
  iprop((bigSep (Finset.range (len s)) fun k => blkAny (F := F) (nxt s c) (src s c k)) ∗ reached ER (rcv s (nxt s c) 0) 0)
/-- Paid to a send cell: the source back. -/
def sndPay (s : Bool) (c : Dev nD) (h : ℕ) : sProp 𝕄 := blk c (src s c h) (shr s h) fin
/-- Paid to a receive cell: the block that came in, and that the sender is ready for hop `h + 1` of the other stream. -/
def rcvPay (s : Bool) (c : Dev nD) (h : ℕ) : sProp 𝕄 :=
  iprop(blk c (src s c (h + 1)) fullShare fin ∗ reached ER (rcv (!s) (nxt (!s) c) (h + 1)) ((h + 1) / 2))
/-- Paid to the copy cell: the own block written, and the scratch chunk back. -/
def cpyPay (c : Dev nD) : sProp 𝕄 := iprop(blk c c fullShare fin ∗ chk c (own c))

/-- The schedule. -/
def sched : Rounds.Schedule (GSem nD τ sig) Bool 𝕄 where
  duties g r := if g.1.2 = .tc then
      match kind g.2 with
      | .bar => if r = 0 then Finset.univ else ∅
      | .cpy => if r = 0 then {false} else ∅
      | .snd s => if 2 * r + par g.2 < len s then {false} else ∅
      | .rcv s => if 2 * r + par g.2 < len s then {false} else ∅
      | .other => ∅
    else ∅
  amount g _ _ := if kind g.2 = .bar then 1 else N
  payload g r d :=
    match kind g.2 with
    | .bar => barPay g.1.1 d
    | .cpy => cpyPay fin own g.1.1
    | .snd s => sndPay fin s g.1.1 (2 * r + par g.2)
    | .rcv s => rcvPay fin s g.1.1 (2 * r + par g.2)
    | .other => iprop(emp)
  amount_pos g _ _ _ := by
    by_cases h : kind g.2 = .bar
    · rw [if_pos h]; exact Nat.one_pos
    · rw [if_neg h]; exact N_pos

instance sched_storable (g : GSem nD τ sig) (r : ℕ) (d : Bool) :
    BI.Storable (upEmb : UEmb _ 𝕄) ((sched fin own).payload g r d) := by
  show BI.Storable upEmb (match kind g.2 with
    | .bar => barPay g.1.1 d
    | .cpy => cpyPay fin own g.1.1
    | .snd s => sndPay fin s g.1.1 (2 * r + par g.2)
    | .rcv s => rcvPay fin s g.1.1 (2 * r + par g.2)
    | .other => iprop(emp))
  unfold barPay cpyPay sndPay rcvPay
  split <;> infer_instance

theorem expect_one (Rd : Rounds.Schedule (GSem nD τ sig) Bool 𝕄) {g : GSem nD τ sig} {r n : ℕ} (hd : Rd.duties g r = {false})
    (ha : ∀ d, Rd.amount g r d = n) : Rd.expect g r = n := by
  unfold Schedule.expect Schedule.amountOf; rw [hd, Finset.sum_singleton, ha]
theorem expect_two (Rd : Rounds.Schedule (GSem nD τ sig) Bool 𝕄) {g : GSem nD τ sig} {r : ℕ} (hd : Rd.duties g r = Finset.univ)
    (ha : ∀ d, Rd.amount g r d = 1) : Rd.expect g r = 2 := by
  unfold Schedule.expect Schedule.amountOf; rw [hd, Finset.sum_congr rfl fun d _ => ha d]; rfl

theorem rest_one (Rd : Rounds.Schedule (GSem nD τ sig) Bool 𝕄) {g : GSem nD τ sig} {r : ℕ} {P : sProp 𝕄} (hd : Rd.duties g r = {false})
    (hp : ∀ d, Rd.payload g r d = P) : bigSep (Rd.duties g r \ ∅) (fun d => Rd.payload g r d) = P := by
  rw [Finset.sdiff_empty, hd, bigSep_singleton, hp]

section Facts

variable (s : Bool) (c : Dev nD) (h : ℕ)

theorem half (h : ℕ) : 2 * (h / 2) + h % 2 = h := by omega

theorem duties_bar : (sched fin own).duties (bar c) 0 = Finset.univ := rfl
theorem duties_cpy : (sched fin own).duties (cpy c) 0 = {false} := rfl
theorem duties_snd_if : (sched fin own).duties (snd s c h) (h / 2) = if h < len s then {false} else ∅ := by
  dsimp only [sched]; rw [if_pos rfl, kind_snd, par_snd]; dsimp only; rw [half]
theorem duties_rcv_if : (sched fin own).duties (rcv s c h) (h / 2) = if h < len s then {false} else ∅ := by
  dsimp only [sched]; rw [if_pos rfl, kind_rcv, par_rcv]; dsimp only; rw [half]
theorem duties_snd (hh : h < len s) : (sched fin own).duties (snd s c h) (h / 2) = {false} := by
  rw [duties_snd_if, if_pos hh]
theorem duties_rcv (hh : h < len s) : (sched fin own).duties (rcv s c h) (h / 2) = {false} := by
  rw [duties_rcv_if, if_pos hh]

theorem amount_bar (r : ℕ) (d : Bool) : (sched fin own).amount (bar c) r d = 1 := by
  dsimp only [sched]; rw [kind_bar]; exact if_pos rfl
theorem amount_cpy (r : ℕ) (d : Bool) : (sched fin own).amount (cpy c) r d = N := by
  dsimp only [sched]; rw [kind_cpy]; exact if_neg (fun e => by cases e)
theorem amount_snd (r : ℕ) (d : Bool) : (sched fin own).amount (snd s c h) r d = N := by
  dsimp only [sched]; rw [kind_snd]; exact if_neg (fun e => by cases e)
theorem amount_rcv (r : ℕ) (d : Bool) : (sched fin own).amount (rcv s c h) r d = N := by
  dsimp only [sched]; rw [kind_rcv]; exact if_neg (fun e => by cases e)

theorem expect_bar : (sched fin own).expect (bar c) 0 = 2 := expect_two _ (duties_bar fin own c) (amount_bar fin own c 0)
theorem expect_cpy : (sched fin own).expect (cpy c) 0 = N := expect_one _ (duties_cpy fin own c) (amount_cpy fin own c 0)
theorem expect_snd (hh : h < len s) : (sched fin own).expect (snd s c h) (h / 2) = N :=
  expect_one _ (duties_snd fin own s c h hh) (amount_snd fin own s c h _)
theorem expect_rcv (hh : h < len s) : (sched fin own).expect (rcv s c h) (h / 2) = N :=
  expect_one _ (duties_rcv fin own s c h hh) (amount_rcv fin own s c h _)

theorem payload_bar (d : Bool) : (sched fin own).payload (bar c) 0 d = barPay c d := rfl
theorem payload_cpy (d : Bool) : (sched fin own).payload (cpy c) 0 d = cpyPay fin own c := rfl
theorem payload_snd (d : Bool) : (sched fin own).payload (snd s c h) (h / 2) d = sndPay fin s c h := by
  dsimp only [sched]; rw [kind_snd, par_snd]; dsimp only; rw [half]
theorem payload_rcv (d : Bool) : (sched fin own).payload (rcv s c h) (h / 2) d = rcvPay fin s c h := by
  dsimp only [sched]; rw [kind_rcv, par_rcv]; dsimp only; rw [half]

theorem rest_bar : bigSep ((sched fin own).duties (bar c) 0 \ ∅) (fun d => (sched fin own).payload (bar c) 0 d)
    = iprop(barPay c true ∗ barPay c false) := by
  rw [Finset.sdiff_empty, duties_bar, show (Finset.univ : Finset Bool) = {true, false} from rfl, bigSep_insert (by decide), bigSep_singleton]
  rfl
theorem rest_cpy : bigSep ((sched fin own).duties (cpy c) 0 \ ∅) (fun d => (sched fin own).payload (cpy c) 0 d) = cpyPay fin own c :=
  rest_one _ (duties_cpy fin own c) (payload_cpy fin own c)
theorem rest_snd (hh : h < len s) :
    bigSep ((sched fin own).duties (snd s c h) (h / 2) \ ∅) (fun d => (sched fin own).payload (snd s c h) (h / 2) d) = sndPay fin s c h :=
  rest_one _ (duties_snd fin own s c h hh) (payload_snd fin own s c h)
theorem rest_rcv (hh : h < len s) :
    bigSep ((sched fin own).duties (rcv s c h) (h / 2) \ ∅) (fun d => (sched fin own).payload (rcv s c h) (h / 2) d) = rcvPay fin s c h :=
  rest_one _ (duties_rcv fin own s c h hh) (payload_rcv fin own s c h)

/-- After a stream's last round at a cell there is none. -/
theorem later_snd (hh : len s ≤ h) : ∀ r, h / 2 ≤ r → (sched fin own).duties (snd s c h) r = ∅ := fun r hr => by
  dsimp only [sched]; rw [if_pos rfl, kind_snd, par_snd]; exact if_neg (by omega)
theorem later_rcv (hh : len s ≤ h) : ∀ r, h / 2 ≤ r → (sched fin own).duties (rcv s c h) r = ∅ := fun r hr => by
  dsimp only [sched]; rw [if_pos rfl, kind_rcv, par_rcv]; exact if_neg (by omega)
theorem later_bar : ∀ r, 1 ≤ r → (sched fin own).duties (bar c) r = ∅ := fun r hr => by
  dsimp only [sched]; rw [if_pos rfl]; exact if_neg (by omega)
theorem later_cpy : ∀ r, 1 ≤ r → (sched fin own).duties (cpy c) r = ∅ := fun r hr => by
  dsimp only [sched]; rw [if_pos rfl]; exact if_neg (by omega)

end Facts

/-! ## What each device owes at launch, and the levels -/

/-- The landings a device still owes its neighbour on a stream: those of the hops from `h` on. -/
def owedFrom (s : Bool) (c : Dev nD) (h : ℕ) : CellTallies nD τ sig ℕ :=
  ∑ k ∈ Finset.Ico h (len s), tallyAt (rcv s (nxt s c) k) k N

theorem Ico_peel {a b : ℕ} (h : a < b) : Finset.Ico a b = insert a (Finset.Ico (a + 1) b) := by
  ext x; simp only [Finset.mem_Ico, Finset.mem_insert]; omega
theorem not_mem_Ico (a b : ℕ) : a ∉ Finset.Ico (a + 1) b := by
  simp only [Finset.mem_Ico]; omega

theorem owedFrom_step (s : Bool) (c : Dev nD) {h : ℕ} (hh : h < len s) :
    owedFrom s c h = owedFrom s c (h + 1) + tallyAt (rcv s (nxt s c) h) h N := by
  unfold owedFrom
  rw [Ico_peel hh, Finset.sum_insert (not_mem_Ico _ _), add_comm]

theorem owedFrom_end (s : Bool) (c : Dev nD) {h : ℕ} (hh : len s ≤ h) : owedFrom s c h = 0 := by
  unfold owedFrom; rw [Finset.Ico_eq_empty (by omega), Finset.sum_empty]

theorem owedFrom_pos {s : Bool} {c : Dev nD} {h : ℕ} {g : GSem nD τ sig} {i : ℕ} (hp : 0 < owedFrom s c h g i) :
    ∃ k, h ≤ k ∧ k < len s ∧ g = rcv s (nxt s c) k ∧ i = k := by
  unfold owedFrom at hp
  rw [Finset.sum_apply, Finsupp.finset_sum_apply] at hp
  obtain ⟨k, hk, hp⟩ := Finset.exists_ne_zero_of_sum_ne_zero (Nat.pos_iff_ne_zero.mp hp)
  rw [Finset.mem_Ico] at hk
  rw [tallyAt_apply] at hp
  by_cases e : g = rcv s (nxt s c) k ∧ i = k
  · exact ⟨k, hk.1, hk.2, e.1, e.2⟩
  · rw [if_neg e] at hp; exact absurd rfl hp

/-- What a device owes at launch: every landing of both streams, and one barrier unit to either neighbour. -/
def O₀ (c : Dev nD) : CellTallies nD τ sig ℕ :=
  owedFrom true c 0 + owedFrom false c 0 + tallyAt (bar (nxt true c)) 0 1 + tallyAt (bar (nxt false c)) 0 1

def L (g : GSem nD τ sig) : Finset ℕ := if g.1.2 = .tc then Finset.range 16 else ∅
/-- The barrier's level is 1, a landing's two more than its hop; the rest are at 0. -/
def lv (g : GSem nD τ sig) (i : ℕ) : ℕ :=
  match kind g.2 with
  | .bar => 1
  | .rcv _ => 2 + i
  | _ => 0

theorem L_of_ne (g : GSem nD τ sig) (h : g.1.2 ≠ .tc) : L g = ∅ := if_neg h
theorem mem_L (c : Dev nD) (sm : SemLoc sig) {i : ℕ} (hi : i < 16) : i ∈ L ((c : Thread nD τ), sm) := by
  unfold L; rw [if_pos rfl]; exact Finset.mem_range.mpr hi
theorem lv_rcv (s : Bool) (c : Dev nD) (h i : ℕ) : lv (rcv s c h) i = 2 + i := by
  unfold lv; rw [kind_rcv]
theorem lv_snd (s : Bool) (c : Dev nD) (h i : ℕ) : lv (snd s c h) i = 0 := by
  unfold lv; rw [kind_snd]
theorem lv_bar (c : Dev nD) (i : ℕ) : lv (bar c) i = 1 := rfl
theorem lv_cpy (c : Dev nD) (i : ℕ) : lv (cpy c) i = 0 := rfl

/-- A wait is allowed whose level is below that of every landing still owed: with the hops from `h` on owed, one
    of level at most `1 + h`. -/
theorem mayWait (c : Dev nD) (sm : SemLoc sig) {i h : ℕ} (hi : i < 16) (hl : lv ((c : Thread nD τ), sm) i ≤ 1 + h) :
    (levAts L lv : sProp 𝕄) ⊢ MayWait (c : Thread nD τ) sm i (owedFrom true c h + owedFrom false c h) := by
  have key : ∀ g j, 0 < (owedFrom true c h + owedFrom false c h) g j →
      ∃ s k, h ≤ k ∧ k < len s ∧ g = rcv s (nxt s c) k ∧ j = k := fun g j hp => by
    rw [Pi.add_apply, Finsupp.add_apply] at hp
    rcases Nat.add_pos_iff_pos_or_pos.mp hp with hp | hp
    · obtain ⟨k, h1, h2, h3, h4⟩ := owedFrom_pos hp; exact ⟨true, k, h1, h2, h3, h4⟩
    · obtain ⟨k, h1, h2, h3, h4⟩ := owedFrom_pos hp; exact ⟨false, k, h1, h2, h3, h4⟩
  exact MayOwe.of_cut (L := L) (lev := lv) (1 + h)
    (fun p hp => by rw [Finset.mem_singleton.mp hp]; exact mem_L c sm hi)
    (fun g j hp => by
      obtain ⟨s, k, h1, h2, rfl, rfl⟩ := key g j hp
      exact mem_L _ _ (lt_of_lt_of_le h2 (len_le s)))
    (fun p hp => by rw [Finset.mem_singleton.mp hp]; exact hl)
    (fun g j hp => by
      obtain ⟨s, k, h1, h2, rfl, rfl⟩ := key g j hp
      rw [lv_rcv]; omega)

end Cert.KernelIdeal.RingProof
-- ==== Proof.Hops.lean ====
module

public import proofs.«01_k».proof.Proof.Sched

/-! # The hops of the two streams

A stream's state before hop `h`, the two steps of a hop (the start, and the two waits), and the loop. -/

@[expose] public section

set_option maxRecDepth 16384

noncomputable section

namespace Cert.KernelIdeal.RingProof

open Cert.KernelIdeal.Gen
open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type} [FloatOps F]

local notation "𝕄" => MT nD τ sig ℕ (Elt F) ℕ UU ℕ

abbrev 𝒱₀ : Variants := Variants.none

/-! ## All the cells -/

set_option backward.proofsInPublic true in
/-- The kernel's own semaphores. -/
def osem : Fin 9 → SemLoc sig := fun k => .dma (⟨3 + k.val, by have := k.isLt; show 3 + k.val < 12; omega⟩ : Fin 12)

theorem osem_inj : Function.Injective osem := by decide +kernel
theorem osem_ne_bar (k : Fin 9) : osem k ≠ .reg barSem := fun e => by cases e

def barEmb : Dev nD ↪ GSem nD τ sig := ⟨fun c => bar c, fun _ _ h => congrArg (fun g : GSem nD τ sig => g.1.1) h⟩
def scEmb : Dev nD × Fin 9 ↪ GSem nD τ sig :=
  ⟨fun ck => ((ck.1 : Thread nD τ), osem ck.2), fun _ _ h =>
    Prod.ext (congrArg (fun g : GSem nD τ sig => g.1.1) h) (osem_inj (congrArg Prod.snd h))⟩

/-- The barrier cells of all devices. -/
abbrev barCells : Finset (GSem nD τ sig) := Finset.univ.map barEmb
/-- The kernel's own cells of all devices. -/
abbrev scCells : Finset (GSem nD τ sig) := Finset.univ.map scEmb

theorem bar_mem (c : Dev nD) : bar c ∈ (barCells ∪ scCells : Finset (GSem nD τ sig)) :=
  Finset.mem_union_left _ (Finset.mem_map_of_mem barEmb (Finset.mem_univ c))
theorem osem_mem (c : Dev nD) {sm : SemLoc sig} (k : Fin 9) (e : sm = osem k) :
    ((c : Thread nD τ), sm) ∈ (barCells ∪ scCells : Finset (GSem nD τ sig)) := by
  subst e; exact Finset.mem_union_right _ (Finset.mem_map_of_mem scEmb (Finset.mem_univ (c, k)))

/-- The number of a send semaphore among the kernel's own, by the hop's parity. -/
def sndIx : Bool → ℕ → Fin 9
  | true, 0 => 1
  | true, _ + 1 => 2
  | false, 0 => 5
  | false, _ + 1 => 6
/-- The number of a receive semaphore among the kernel's own, by the hop's parity. -/
def rcvIx : Bool → ℕ → Fin 9
  | true, 0 => 3
  | true, _ + 1 => 4
  | false, 0 => 7
  | false, _ + 1 => 8

theorem snd_osem (s : Bool) (h : ℕ) : SemLoc.dma (semAt (sndA s) h).sem = osem (sndIx s (h % 2)) := by
  rw [semAt_mod]
  rcases mod2 h with e | e <;> rw [e] <;> cases s <;> rfl
theorem rcv_osem (s : Bool) (h : ℕ) : SemLoc.dma (semAt (rcvA s) h).sem = osem (rcvIx s (h % 2)) := by
  rw [semAt_mod]
  rcases mod2 h with e | e <;> rw [e] <;> cases s <;> rfl
theorem cpy_osem : SemLoc.dma cc0_scratch1.sem = osem 0 := rfl

theorem snd_mem (s : Bool) (c : Dev nD) (h : ℕ) : snd s c h ∈ (barCells ∪ scCells : Finset (GSem nD τ sig)) :=
  osem_mem c _ (snd_osem s h)
theorem rcv_mem (s : Bool) (c : Dev nD) (h : ℕ) : rcv s c h ∈ (barCells ∪ scCells : Finset (GSem nD τ sig)) :=
  osem_mem c _ (rcv_osem s h)
theorem cpy_mem (c : Dev nD) : cpy c ∈ (barCells ∪ scCells : Finset (GSem nD τ sig)) := osem_mem c 0 cpy_osem

section State

variable (fin : Out F) (own : Dev nD → Chk F) (K : GSem nD τ sig → ℕ)

/-- Every cell's invariant. -/
def invs : sProp 𝕄 := bigSep (barCells ∪ scCells) fun g => cellInv ER (sched fin own) (K g) g

instance invs_persistent : BI.Persistent (invs fin own K) := by unfold invs; infer_instance

theorem inv_at {g : GSem nD τ sig} (hg : g ∈ (barCells ∪ scCells : Finset (GSem nD τ sig))) :
    invs fin own K ⊢ cellInv ER (sched fin own) (K g) g := bigSep_elim hg

/-- What a device holds for a hop it has still to make: the two duties it pays, the block it writes, and its credit
    for the block that comes in. -/
def Todo (s : Bool) (c : Dev nD) (k : ℕ) : sProp 𝕄 :=
  iprop(dutyTok ER (snd s c k) (k / 2) false ∗ dutyTok ER (rcv s (nxt s c) k) (k / 2) false
    ∗ blkAny (F := F) (nxt s c) (src s c k) ∗ cred (tallyAt (rcv s c k) k N))

/-- A device's positions on a stream's cells before hop `h`. -/
def Pos (s : Bool) (c : Dev nD) (h : ℕ) : sProp 𝕄 :=
  iprop(atPos ER (snd s c h) (h / 2) ∅ 0 ∗ atPos ER (snd s c (h + 1)) ((h + 1) / 2) ∅ 0
    ∗ atPos ER (rcv s c h) (h / 2) ∅ 0 ∗ atPos ER (rcv s c (h + 1)) ((h + 1) / 2) ∅ 0
    ∗ reached ER (snd s c h) (h / 2) ∗ reached ER (snd s c (h + 1)) ((h + 1) / 2)
    ∗ reached ER (rcv s c h) (h / 2) ∗ reached ER (rcv s c (h + 1)) ((h + 1) / 2))

/-- The blocks a stream has dealt with before hop `h`. -/
def Got (s : Bool) (c : Dev nD) (h : ℕ) : sProp 𝕄 := bigSep (Finset.range h) fun k => blk c (src s c k) (shr s k) fin

/-- A stream before its hop `h`. -/
def Idle (s : Bool) (c : Dev nD) (h : ℕ) : sProp 𝕄 :=
  iprop(Pos s c h ∗ (bigSep (Finset.Ico h (len s)) fun k => Todo (F := F) s c k) ∗ blk c (src s c h) (shr s h) fin ∗ Got fin s c h)

/-- A stream with hop `h` started and not yet waited for. -/
def Busy (s : Bool) (c : Dev nD) (h : ℕ) : sProp 𝕄 :=
  iprop(Pos s c h ∗ (bigSep (Finset.Ico (h + 1) (len s)) fun k => Todo (F := F) s c k)
    ∗ (cred (tallyAt (snd s c h) 0 N) ∗ cred (tallyAt (rcv s c h) h N)) ∗ Got fin s c h)

/-- The neighbour is ready for hop `h`: its receive cell has reached the hop's round. -/
abbrev Rdy (s : Bool) (c : Dev nD) (h : ℕ) : sProp 𝕄 := reached ER (rcv s (nxt s c) h) (h / 2)
/-- The device itself is ready for what comes in at hop `h`. -/
abbrev Own (s : Bool) (c : Dev nD) (h : ℕ) : sProp 𝕄 := reached ER (rcv s c h) (h / 2)

/-- A device's debt, whatever it has waited for. -/
def owesE (c : Dev nD) (O : CellTallies nD τ sig ℕ) : sProp 𝕄 := iprop(∃ W, owes (c : Thread nD τ) O W)

theorem blk_written (c d : Dev nD) (fd : Out F) :
    ((blkM d).view.loc (c : Thread nD τ) ↦[(blkM d).view.set]{fullShare}
      ((blkM d).view.write (Elt F) fd ((blkM d).view.read (Elt F) fin) Finset.univ) : sProp 𝕄) = blk c d fullShare fin := by
  refine pointsTo_congr fun i hi => ?_
  rw [View.write_read_eq_piecewise]
  exact Finset.piecewise_eq_of_mem _ _ _ hi

theorem idle_peel (s : Bool) (c : Dev nD) {h : ℕ} (hh : h < len s) :
    (bigSep (Finset.Ico h (len s)) fun k => Todo (F := F) s c k)
      = iprop(Todo (F := F) s c h ∗ bigSep (Finset.Ico (h + 1) (len s)) fun k => Todo (F := F) s c k) := by
  rw [Ico_peel hh, bigSep_insert (not_mem_Ico _ _)]; rfl

set_option maxHeartbeats 800000 in
/-- A hop's start: the stream becomes busy, and the device no longer owes its neighbour the landing. -/
theorem wp_start (s : Bool) (c n : Dev nD) (h : ℕ) (hh : h < len s) (hn : n = nxt s c) (o : Fin 2 → Nat)
    (ho : ∀ a, o a + S1536x1536.size a ≤ S49152x1536.size a) (e : o = ![1536 * (src s c h).val, 0])
    (O₁ O₂ : CellTallies nD τ sig ℕ) (hO : O₁ = O₂ + tallyAt (rcv s (nxt s c) h) h N) (k : PUnit → Body F Unit) (Q : Unit → sProp 𝕄) :
    iprop(invs fin own K ∗ Idle fin s c h ∗ Rdy (F := F) s c h ∗ Own (F := F) (!s) c (h + 1) ∗ owesE c O₁)
      ⊢ iprop(((Busy fin s c h ∗ owesE c O₂) -∗ wp frame (wpE (defs₀ (F := F)) 𝒱₀ c none) Set.univ (k ⟨⟩) Q)
        -∗ wp frame (wpE (defs₀ (F := F)) 𝒱₀ c none) Set.univ (startHop outM (sndA s) (rcvA s) h n o ho >>= k) Q) := by
  subst hn; subst e
  unfold startHop
  simp only [Prog.lift, Prog.bind_op, Prog.bind_ret]
  unfold Idle Busy owesE
  rw [idle_peel s c hh]
  unfold Todo Pos
  iintro ⟨#HI, ⟨⟨HaS, HaS', HaR, HaR', #HrS, #HrS', #HrR, #HrR'⟩, ⟨⟨HtS, HtR, ⟨%fd, Hd⟩, Hc⟩, Hrest⟩, Hsrc, Hgot⟩, #Hrdy, #Hown, ⟨%W, HO⟩⟩
  iintro Hk
  iapply (Rounds.wp_send_pointsTo_with 𝒱₀ ER (sched fin own) (c : Thread nD τ) none (c' := (nxt s c : Thread nD τ)) (src := blkM (src s c h))
      (dst := blkM (src s c h)) (sS := .dma (semAt (sndA s) h).sem) (sem := .dma (semAt (rcvA s) h).sem) (q := shr s h) (fs := fin)
      (fd := fd) (F := reached ER (rcv (!s) c (h + 1)) ((h + 1) / 2))
      (κ₁ := K (snd s c h)) (κ₂ := K (rcv s (nxt s c) h)) (r₁ := h / 2) (r₂ := h / 2) (d₁ := false) (d₂ := false)
      (by rw [duties_snd fin own s c h hh]; exact Finset.mem_singleton_self _)
      (by rw [duties_rcv fin own s (nxt s c) h hh]; exact Finset.mem_singleton_self _)
      h 0 N (amount_blk _ _ _) (amount_snd fin own s c h _ _) (amount_rcv fin own s (nxt s c) h _ _) O₂ hO (W := W)
      (by rw [payload_snd]; exact BI.Entails.refl _)
      (by rw [payload_rcv]; unfold rcvPay; rw [src_succ, nxt_nxt, blk_written])) $$ [Hsrc Hd HO HtS HtR]
  · isplitr; · iapply (inv_at fin own K (snd_mem s c h)); iexact HI
    isplitr; · iapply (inv_at fin own K (rcv_mem s (nxt s c) h)); iexact HI
    isplitl [Hsrc]; · iexact Hsrc
    isplitl [Hd]
    · isplitl [Hd]; · iexact Hd
      iexact Hown
    isplitl [HO]; · iexact HO
    isplitl [HtS]; · iexact HtS
    isplitr; · iexact HrS
    isplitl [HtR]; · iexact HtR
    iexact Hrdy
  iintro ⟨HcS, HO⟩
  iapply Hk
  isplitr [HO]
  · isplitl [HaS HaS' HaR HaR']
    · isplitl [HaS]; · iexact HaS
      isplitl [HaS']; · iexact HaS'
      isplitl [HaR]; · iexact HaR
      isplitl [HaR']; · iexact HaR'
      isplitr; · iexact HrS
      isplitr; · iexact HrS'
      isplitr; · iexact HrR
      iexact HrR'
    isplitl [Hrest]; · iexact Hrest
    isplitl [HcS Hc]
    · isplitl [HcS]; · iexact HcS
      iexact Hc
    iexact Hgot
  · iexists W; iexact HO

theorem got_succ (s : Bool) (c : Dev nD) (h : ℕ) :
    Got fin s c (h + 1) = iprop(blk c (src s c h) (shr s h) fin ∗ Got fin s c h) := by
  unfold Got; rw [Finset.range_add_one, bigSep_insert Finset.notMem_range_self]; rfl

set_option maxHeartbeats 800000 in
/-- A hop's two waits: the source is back, the next block is in, and the neighbour it came from is ready for the other
    stream's next hop. -/
theorem wp_waits (s : Bool) (c : Dev nD) (h : ℕ) (hh : h < len s) (o o' : Fin 2 → Nat)
    (ho : ∀ a, o a + S1536x1536.size a ≤ S49152x1536.size a) (ho' : ∀ a, o' a + S1536x1536.size a ≤ S49152x1536.size a)
    (k : PUnit → Body F Unit) (Q : Unit → sProp 𝕄) :
    iprop(invs fin own K ∗ levAts L lv ∗ Busy fin s c h ∗ owesE c (owedFrom true c (h + 1) + owedFrom false c (h + 1)))
      ⊢ iprop(((Idle fin s c (h + 1) ∗ Rdy (F := F) (!s) c (h + 1) ∗ owesE c (owedFrom true c (h + 1) + owedFrom false c (h + 1)))
          -∗ wp frame (wpE (defs₀ (F := F)) 𝒱₀ c none) Set.univ (k ⟨⟩) Q)
        -∗ wp frame (wpE (defs₀ (F := F)) 𝒱₀ c none) Set.univ
            (waitHop outM (sndA s) h o ho >>= fun _ => waitHop outM (rcvA s) h o' ho' >>= k) Q) := by
  unfold waitHop
  simp only [Prog.lift, Prog.bind_op, Prog.bind_ret]
  unfold Idle Busy owesE
  rw [got_succ]
  unfold Pos
  have h16 : h < 16 := lt_of_lt_of_le hh (len_le s)
  iintro ⟨#HI, #Hlev, ⟨⟨HaS, HaS', HaR, HaR', #HrS, #HrS', #HrR, #HrR'⟩, Hrest, ⟨HcS, HcR⟩, Hgot⟩, ⟨%W, HO⟩⟩
  iintro Hk
  iapply (Rounds.wp_wait_rest_token 𝒱₀ ER (sched fin own) (c : Thread nD τ) none (κ := K (snd s c h))
      (wpE_waitDma2_eq (src := blkAt outM o ho) (dst := blkAt outM o ho) 𝒱₀ (c : Thread nD τ) none Set.univ) (Set.mem_univ _) 0
      (O := owedFrom true c (h + 1) + owedFrom false c (h + 1)) (W := W) (R := h / 2) (m := 0) (T := ∅)
      ((Nat.zero_add _).trans ((credit_blk o ho).trans (expect_snd fin own s c h hh).symm))) $$ [HcS HO HaS]
  · isplitr; · iapply (inv_at fin own K (snd_mem s c h)); iexact HI
    isplitl [HcS]; · iexact HcS
    isplitl [HO]; · iexact HO
    isplitr
    · iapply (mayWait (F := F) c (.dma (semAt (sndA s) h).sem) (i := 0) (h := h + 1) (by omega) (by rw [lv_snd]; omega)); iexact Hlev
    iexact HaS
  iintro ⟨HO, HaS, #HrS2, Hpay⟩
  ihave Hsrc := (Entails.of_eq (rest_snd fin own s c h hh)) $$ Hpay
  iapply (Rounds.wp_wait_rest_token 𝒱₀ ER (sched fin own) (c : Thread nD τ) none (κ := K (rcv s c h))
      (wpE_waitDma2_eq (src := blkAt outM o' ho') (dst := blkAt outM o' ho') 𝒱₀ (c : Thread nD τ) none Set.univ) (Set.mem_univ _) h
      (O := owedFrom true c (h + 1) + owedFrom false c (h + 1)) (R := h / 2) (m := 0) (T := ∅)
      ((Nat.zero_add _).trans ((credit_blk o' ho').trans (expect_rcv fin own s c h hh).symm))) $$ [HcR HO HaR]
  · isplitr; · iapply (inv_at fin own K (rcv_mem s c h)); iexact HI
    isplitl [HcR]; · iexact HcR
    isplitl [HO]; · iexact HO
    isplitr
    · iapply (mayWait (F := F) c (.dma (semAt (rcvA s) h).sem) (i := h) (h := h + 1) h16 (by rw [lv_rcv]; omega)); iexact Hlev
    iexact HaR
  iintro ⟨HO, HaR, #HrR2, Hpay⟩
  ihave Hp := (Entails.of_eq (rest_rcv fin own s c h hh)) $$ Hpay
  unfold rcvPay sndPay
  icases Hp with ⟨Hnew, #Hrdy⟩
  iapply Hk
  rw [shr_succ, show (h + 1 + 1) / 2 = h / 2 + 1 by omega, snd_add2, rcv_add2]
  isplitr [HO]
  · isplitl [HaS HaS' HaR HaR']
    · isplitl [HaS']; · iexact HaS'
      isplitl [HaS]; · iexact HaS
      isplitl [HaR']; · iexact HaR'
      isplitl [HaR]; · iexact HaR
      isplitr; · iexact HrS'
      isplitr; · iexact HrS2
      isplitr; · iexact HrR'
      iexact HrR2
    isplitl [Hrest]; · iexact Hrest
    isplitl [Hnew]; · iexact Hnew
    isplitl [Hsrc]; · iexact Hsrc
    iexact Hgot
  · isplitr; · iexact Hrdy
    iexists _; iexact HO

end State

end Cert.KernelIdeal.RingProof
-- ==== Proof.Table.lean ====
module

public import proofs.«01_k».proof.Proof.Hops

/-! # The table of ring neighbours and origins, and the words read from it -/

@[expose] public section

set_option maxRecDepth 16384

noncomputable section

namespace Cert.KernelIdeal.RingProof

open Cert.KernelIdeal.Gen
open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type} [FloatOps F]

local notation "𝕄" => MT nD τ sig ℕ (Elt F) ℕ UU ℕ

/-- A device's number as a word. -/
def wd (d : Dev nD) : BitVec 32 := BitVec.ofNat 32 d.val

theorem off1_eq : ∀ d : Dev nD, k0_off1 d = ![1536 * d.val, 0] := by decide +kernel
theorem off2_eq : ∀ d : Dev nD, k0_off2 d = ![1536 * d.val, 0] := by decide +kernel
theorem off3_wd : ∀ d : Dev nD, k0_off3 (wd d) = ![1536 * d.val, 0] := by decide +kernel
theorem off4_wd : ∀ d : Dev nD, k0_off4 (wd d) = ![1536 * d.val, 0] := by decide +kernel
theorem chk3_wd : ∀ d : Dev nD, k0_chk3 (wd d) := by decide +kernel
theorem chk4_wd : ∀ d : Dev nD, k0_chk4 (wd d) := by decide +kernel
theorem chk1_wd : ∀ d : Dev nD, k0_chk1 (wd d) := by decide +kernel
theorem chk2_wd : ∀ d : Dev nD, k0_chk2 (wd d) := by decide +kernel
theorem dev3_wd : ∀ d : Dev nD, k0_dev3 (wd d) = d.val := by decide +kernel
theorem dev4_wd : ∀ d : Dev nD, k0_dev4 (wd d) = d.val := by decide +kernel

/-- The device the table's entry `i` names: the right and the left neighbour, then the blocks of the right stream from
    its hop 1 on, then those of the left stream. -/
def entry (c : Dev nD) (i : ℕ) : Dev nD :=
  if i = 0 then nxt true c else if i = 1 then nxt false c else if i < 18 then src true c (i - 1) else src false c (i - 17)

theorem entry_right (c : Dev nD) {h : ℕ} (h1 : 1 ≤ h) (h2 : h ≤ 16) : entry c (1 + h) = src true c h := by
  unfold entry
  rw [if_neg (by omega), if_neg (by omega), if_pos (by omega), Nat.add_sub_cancel_left]
theorem entry_left (c : Dev nD) {h : ℕ} (h1 : 1 ≤ h) : entry c (17 + h) = src false c h := by
  unfold entry
  rw [if_neg (by omega), if_neg (by omega), if_neg (by omega), Nat.add_sub_cancel_left]

/-- The table's staging buffer. -/
abbrev tabM : Memref sig .tc .smem S33 .i32 := Memref.whole cc0_stg0_0

/-- The table a device is given. -/
def tab (F : FTy → Type) [FloatOps F] (c : Dev nD) : (cc0_stg0_0 : Ref sig .tc).ty.Contents (Elt F) :=
  fun (i : S33.Idx) => wd (entry c (i 0).val)

/-- The table in its staging buffer. -/
abbrev tabPts (c : Dev nD) : sProp 𝕄 := tabM.view.loc (c : Thread nD τ) ↦[Finset.univ]{fullShare} tab F c

theorem read_tab (c : Dev nD) (i : ℕ) (hi : ∀ a, (![i] : Fin 1 → Nat) a + S1.size a ≤ S33.size a) (x : S1.Idx) :
    (tabM.access (Rect.unit (s := S33) ![i] S1.size hi)).read (Elt F) (tab F c) x = wd (entry c i) := by
  have hx : (x 0).val = 0 := by have : (x 0).val < 1 := (x 0).isLt; omega
  show wd (entry c (i + 1 * (x 0).val)) = _
  rw [hx, Nat.mul_zero, Nat.add_zero]

/-- Reading a word of the table. -/
theorem wp_word (c : Dev nD) (i : ℕ) (hi : ∀ a, (![i] : Fin 1 → Nat) a + S1.size a ≤ S33.size a)
    (k : Elt F .i32 → Body F Unit) (Q : Unit → sProp 𝕄) :
    (tabPts (F := F) c) ⊢ iprop((tabPts (F := F) c -∗ wp frame (wpE (defs₀ (F := F)) 𝒱₀ c none) Set.univ (k (wd (entry c i))) Q)
      -∗ wp frame (wpE (defs₀ (F := F)) 𝒱₀ c none) Set.univ (word tabM i hi >>= k) Q) := by
  unfold word
  simp only [smemLoad, smemLoadElt, Prog.bind_op, Prog.bind_ret]
  iintro Ht Hk
  iapply (wp_load_rect 𝒱₀ (c : Thread nD τ) none Set.univ (m := tabM) (r := Rect.unit (s := S33) ![i] S1.size hi)
    (S := Finset.univ) (q := fullShare) (f := tab F c) (Finset.subset_univ _)) $$ Ht
  iintro Ht
  rw [read_tab]
  iapply Hk $$ Ht

end Cert.KernelIdeal.RingProof
-- ==== Proof.Around.lean ====
module

public import proofs.«01_k».proof.Proof.Table

/-! # The loop: from the first hop to the last -/

@[expose] public section

set_option maxRecDepth 16384

noncomputable section

namespace Cert.KernelIdeal.RingProof

open Cert.KernelIdeal.Gen
open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type} [FloatOps F]

local notation "𝕄" => MT nD τ sig ℕ (Elt F) ℕ UU ℕ

section Loop

variable (fin : Out F) (own : Dev nD → Chk F) (K : GSem nD τ sig → ℕ)

theorem idle_own (s : Bool) (c : Dev nD) (h : ℕ) : Idle fin s c h ⊢ iprop(Own (F := F) s c (h + 1) ∗ Idle fin s c h) := by
  unfold Idle Pos
  iintro ⟨⟨HaS, HaS', HaR, HaR', #HrS, #HrS', #HrR, #HrR'⟩, Hrest⟩
  isplitr; · iexact HrR'
  isplitr [Hrest]
  · isplitl [HaS]; · iexact HaS
    isplitl [HaS']; · iexact HaS'
    isplitl [HaR]; · iexact HaR
    isplitl [HaR']; · iexact HaR'
    isplitr; · iexact HrS
    isplitr; · iexact HrS'
    isplitr; · iexact HrR
    iexact HrR'
  iexact Hrest

/-- Both streams before hop `h`, and the debt that is left. -/
def Both (c : Dev nD) (h : ℕ) : sProp 𝕄 :=
  iprop(Idle fin true c h ∗ Idle fin false c h ∗ Rdy (F := F) true c h ∗ Rdy (F := F) false c h
    ∗ owesE c (owedFrom true c h + owedFrom false c h))

/-- Both streams after their last hops, nothing owed. -/
def Ended (c : Dev nD) : sProp 𝕄 := iprop(Idle fin true c 16 ∗ Idle fin false c 15 ∗ owesE c 0)

theorem owed_right (c : Dev nD) {h : ℕ} (hh : h < 16) :
    owedFrom true c h + owedFrom false c h = (owedFrom true c (h + 1) + owedFrom false c h) + tallyAt (rcv true (nxt true c) h) h N := by
  rw [owedFrom_step true c hh, add_right_comm]
theorem owed_left (c : Dev nD) {h : ℕ} (hh : h < 15) :
    owedFrom true c (h + 1) + owedFrom false c h
      = (owedFrom true c (h + 1) + owedFrom false c (h + 1)) + tallyAt (rcv false (nxt false c) h) h N := by
  rw [owedFrom_step false c (h := h) hh, add_assoc]

set_option maxHeartbeats 1600000 in
/-- The first hop, of the device's own block. -/
theorem wp_firstHop (c : Dev nD) (k : PUnit → Body F Unit) (Q : Unit → sProp 𝕄) :
    iprop(invs fin own K ∗ levAts L lv ∗ Both fin c 0)
      ⊢ iprop((Both fin c 1 -∗ wp frame (wpE (defs₀ (F := F)) 𝒱₀ c none) Set.univ (k ⟨⟩) Q)
        -∗ wp frame (wpE (defs₀ (F := F)) 𝒱₀ c none) Set.univ
            (firstHop outM (sndA true) (rcvA true) (sndA false) (rcvA false) (nxt true c) (nxt false c) c >>= k) Q) := by
  unfold firstHop Both
  simp only [Prog.bind_assoc]
  iintro ⟨#HI, #Hlev, Hr, Hl, #Hrr, #Hrl, HO⟩ Hk
  ihave Hr' := (idle_own fin true c 0) $$ Hr
  icases Hr' with ⟨#Hor, Hr⟩
  ihave Hl' := (idle_own fin false c 0) $$ Hl
  icases Hl' with ⟨#Hol, Hl⟩
  iapply (wp_start fin own K true c (nxt true c) 0 (by decide) rfl _ _ ((off2_eq c).trans (by rw [src_zero])) _ _ (owed_right c (by omega)))
    $$ [Hr HO]
  · isplitr; · iexact HI
    isplitl [Hr]; · iexact Hr
    isplitr; · iexact Hrr
    isplitr; · iexact Hol
    iexact HO
  iintro ⟨Hr, HO⟩
  iapply (wp_start fin own K false c (nxt false c) 0 (by decide) rfl _ _ ((off2_eq c).trans (by rw [src_zero])) _ _ (owed_left c (by omega)))
    $$ [Hl HO]
  · isplitr; · iexact HI
    isplitl [Hl]; · iexact Hl
    isplitr; · iexact Hrl
    isplitr; · iexact Hor
    iexact HO
  iintro ⟨Hl, HO⟩
  iapply (wp_waits fin own K false c 0 (by decide)) $$ [Hl HO]
  · isplitr; · iexact HI
    isplitr; · iexact Hlev
    isplitl [Hl]; · iexact Hl
    iexact HO
  iintro ⟨Hl, #Hrr2, HO⟩
  iapply (wp_waits fin own K true c 0 (by decide)) $$ [Hr HO]
  · isplitr; · iexact HI
    isplitr; · iexact Hlev
    isplitl [Hr]; · iexact Hr
    iexact HO
  iintro ⟨Hr, #Hrl2, HO⟩
  iapply Hk
  isplitl [Hr]; · iexact Hr
  isplitl [Hl]; · iexact Hl
  isplitr; · iexact Hrr2
  isplitr; · iexact Hrl2
  iexact HO

set_option maxHeartbeats 1600000 in
/-- A hop in both directions, of the blocks the table names. -/
theorem wp_hop (c : Dev nD) (h : ℕ) (h0 : 1 ≤ h) (h15 : h < 15) (h1 : 1 + h < 33) (h2 : 17 + h < 33) (k : PUnit → Body F Unit) (Q : Unit → sProp 𝕄) :
    iprop(invs fin own K ∗ levAts L lv ∗ tabPts (F := F) c ∗ Both fin c h)
      ⊢ iprop(((tabPts (F := F) c ∗ Both fin c (h + 1)) -∗ wp frame (wpE (defs₀ (F := F)) 𝒱₀ c none) Set.univ (k ⟨⟩) Q)
        -∗ wp frame (wpE (defs₀ (F := F)) 𝒱₀ c none) Set.univ
            (hop tabM outM (sndA true) (rcvA true) (sndA false) (rcvA false) (nxt true c) (nxt false c) h h1 h2 >>= k) Q) := by
  unfold hop Both
  simp only [Prog.bind_assoc]
  iintro ⟨#HI, #Hlev, Ht, Hr, Hl, #Hrr, #Hrl, HO⟩ Hk
  ihave Hr' := (idle_own fin true c h) $$ Hr
  icases Hr' with ⟨#Hor, Hr⟩
  ihave Hl' := (idle_own fin false c h) $$ Hl
  icases Hl' with ⟨#Hol, Hl⟩
  iapply (wp_word c (1 + h)) $$ Ht
  iintro Ht
  rw [entry_right c h0 (by omega)]
  simp only [Prog.lift, Prog.bind_op, Prog.bind_ret, wp_assume_of _ _ _ _ (d := k0_chk3.dec _) (chk3_wd (src true c h))]
  iapply (wp_start fin own K true c (nxt true c) h (lt_of_lt_of_le h15 (len_ge _)) rfl _ _ (off3_wd _) _ _ (owed_right c (by omega))) $$ [Hr HO]
  · isplitr; · iexact HI
    isplitl [Hr]; · iexact Hr
    isplitr; · iexact Hrr
    isplitr; · iexact Hol
    iexact HO
  iintro ⟨Hr, HO⟩
  iapply (wp_word c (17 + h)) $$ Ht
  iintro Ht
  rw [entry_left c h0]
  simp only [Prog.lift, Prog.bind_op, Prog.bind_ret, wp_assume_of _ _ _ _ (d := k0_chk4.dec _) (chk4_wd (src false c h))]
  iapply (wp_start fin own K false c (nxt false c) h (lt_of_lt_of_le h15 (len_ge _)) rfl _ _ (off4_wd _) _ _ (owed_left c h15)) $$ [Hl HO]
  · isplitr; · iexact HI
    isplitl [Hl]; · iexact Hl
    isplitr; · iexact Hrl
    isplitr; · iexact Hor
    iexact HO
  iintro ⟨Hl, HO⟩
  iapply (wp_waits fin own K false c h (lt_of_lt_of_le h15 (len_ge _))) $$ [Hl HO]
  · isplitr; · iexact HI
    isplitr; · iexact Hlev
    isplitl [Hl]; · iexact Hl
    iexact HO
  iintro ⟨Hl, #Hrr2, HO⟩
  iapply (wp_waits fin own K true c h (lt_of_lt_of_le h15 (len_ge _))) $$ [Hr HO]
  · isplitr; · iexact HI
    isplitr; · iexact Hlev
    isplitl [Hr]; · iexact Hr
    iexact HO
  iintro ⟨Hr, #Hrl2, HO⟩
  iapply Hk
  isplitl [Ht]; · iexact Ht
  isplitl [Hr]; · iexact Hr
  isplitl [Hl]; · iexact Hl
  isplitr; · iexact Hrr2
  isplitr; · iexact Hrl2
  iexact HO

set_option maxHeartbeats 1600000 in
/-- The last hop, to the right only. -/
theorem wp_lastHop (c : Dev nD) (k : PUnit → Body F Unit) (Q : Unit → sProp 𝕄) :
    iprop(invs fin own K ∗ levAts L lv ∗ tabPts (F := F) c ∗ Both fin c 15)
      ⊢ iprop(((tabPts (F := F) c ∗ Ended fin c) -∗ wp frame (wpE (defs₀ (F := F)) 𝒱₀ c none) Set.univ (k ⟨⟩) Q)
        -∗ wp frame (wpE (defs₀ (F := F)) 𝒱₀ c none) Set.univ
            (lastHop tabM outM (sndA true) (rcvA true) (nxt true c) >>= k) Q) := by
  unfold lastHop Both Ended
  simp only [Prog.bind_assoc]
  iintro ⟨#HI, #Hlev, Ht, Hr, Hl, #Hrr, #Hrl, HO⟩ Hk
  ihave Hl' := (idle_own fin false c 15) $$ Hl
  icases Hl' with ⟨#Hol, Hl⟩
  iapply (wp_word c 16) $$ Ht
  iintro Ht
  rw [show entry c 16 = src true c 15 from entry_right c (h := 15) (by omega) (by omega)]
  simp only [Prog.lift, Prog.bind_op, Prog.bind_ret, wp_assume_of _ _ _ _ (d := k0_chk4.dec _) (chk4_wd (src true c 15))]
  iapply (wp_start fin own K true c (nxt true c) 15 (by decide) rfl _ _ (off4_wd _) _ _ (owed_right c (by omega))) $$ [Hr HO]
  · isplitr; · iexact HI
    isplitl [Hr]; · iexact Hr
    isplitr; · iexact Hrr
    isplitr; · iexact Hol
    iexact HO
  iintro ⟨Hr, HO⟩
  rw [show owedFrom true c (15 + 1) + owedFrom false c 15 = owedFrom true c (15 + 1) + owedFrom false c (15 + 1) from by
    rw [owedFrom_end false c (h := 15) (by decide), owedFrom_end false c (h := 15 + 1) (by decide)]]
  iapply (wp_waits fin own K true c 15 (by decide)) $$ [Hr HO]
  · isplitr; · iexact HI
    isplitr; · iexact Hlev
    isplitl [Hr]; · iexact Hr
    iexact HO
  iintro ⟨Hr, -, HO⟩
  rw [show owedFrom true c (15 + 1) + owedFrom false c (15 + 1) = 0 from by
    rw [owedFrom_end false c (h := 15 + 1) (by decide), owedFrom_end true c (h := 15 + 1) (by decide), add_zero]]
  iapply Hk
  isplitl [Ht]; · iexact Ht
  isplitl [Hr]; · iexact Hr
  isplitl [Hl]; · iexact Hl
  iexact HO

/-- All hops from `h` on. -/
theorem wp_hops (c : Dev nD) (n h : ℕ) (hn : n + h < 16) (h0 : 1 ≤ h) (e : n + h = 15) (k : PUnit → Body F Unit) (Q : Unit → sProp 𝕄) :
    iprop(invs fin own K ∗ levAts L lv ∗ tabPts (F := F) c ∗ Both fin c h)
      ⊢ iprop(((tabPts (F := F) c ∗ Ended fin c) -∗ wp frame (wpE (defs₀ (F := F)) 𝒱₀ c none) Set.univ (k ⟨⟩) Q)
        -∗ wp frame (wpE (defs₀ (F := F)) 𝒱₀ c none) Set.univ
            (hops tabM outM (sndA true) (rcvA true) (sndA false) (rcvA false) (nxt true c) (nxt false c) n h hn >>= k) Q) := by
  induction n generalizing h with
  | zero =>
    obtain rfl : h = 15 := by omega
    exact wp_lastHop fin own K c k Q
  | succ n ih =>
    unfold hops
    simp only [Prog.bind_assoc]
    iintro ⟨#HI, #Hlev, Ht, HB⟩ Hk
    iapply (wp_hop fin own K c h h0 (by omega)) $$ [Ht HB]
    · isplitr; · iexact HI
      isplitr; · iexact Hlev
      isplitl [Ht]; · iexact Ht
      iexact HB
    iintro ⟨Ht, HB⟩
    iapply (ih (h + 1) _ (by omega) (by omega)) $$ [Ht HB]
    · isplitr; · iexact HI
      isplitr; · iexact Hlev
      isplitl [Ht]; · iexact Ht
      iexact HB
    iexact Hk

end Loop

end Cert.KernelIdeal.RingProof
-- ==== Proof.Blocks.lean ====
module

public import proofs.«01_k».proof.Proof.Around

/-! # The result as 32 blocks

Block `d` of the result is the chunk of device `d`; the blocks of one result make up the whole of it, and each
device's blocks are its own, those that come with the right stream, and those that come with the left one. -/

@[expose] public section

set_option maxRecDepth 16384

noncomputable section

namespace Cert.KernelIdeal.RingProof

open Cert.KernelIdeal.Gen
open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type} [FloatOps F]

local notation "𝕄" => MT nD τ sig ℕ (Elt F) ℕ UU ℕ

/-! ## Elements of a block -/

theorem mem_blk (d : Dev nD) (i : S49152x1536.Idx) : i ∈ (blkM d).view.set ↔ (i 0).val / 1536 = d.val := by
  have h1 : (i 1).val < 1536 := (i 1).isLt
  have e : (blkM d).view.set = (Rect.unit (s := S49152x1536) ![1536 * d.val, 0] S1536x1536.size (blkInb d)).set :=
    View.set_slice_whole main_v49 _
  rw [e, Rect.mem_set_unit]
  constructor
  · intro h
    have h0 := h 0
    have : 1536 * d.val ≤ (i 0).val ∧ (i 0).val < 1536 * d.val + 1536 := h0
    omega
  · intro h a
    fin_cases a
    · show 1536 * d.val ≤ (i 0).val ∧ (i 0).val < 1536 * d.val + 1536
      omega
    · show 0 ≤ (i 1).val ∧ (i 1).val < 0 + 1536
      omega

/-- The device whose block an element is in. -/
def devOf (i : S49152x1536.Idx) : Dev nD := ⟨(i 0).val / 1536, by
  have h : (i 0).val < 49152 := (i 0).isLt
  show _ < 32
  omega⟩

/-- Its place in the block. -/
def inBlk (i : S49152x1536.Idx) : S1536x1536.Idx := fun a => ⟨if a.val = 0 then (i 0).val % 1536 else (i 1).val, by
  have h1 : (i 1).val < 1536 := (i 1).isLt
  fin_cases a
  · show (i 0).val % 1536 < 1536
    omega
  · exact h1⟩

/-- The result made of the devices' chunks. -/
def outOf (own : Dev nD → Chk F) : Out F := fun (i : S49152x1536.Idx) => own (devOf i) (inBlk i)

theorem emb_blk_row (d : Dev nD) (x : S1536x1536.Idx) : ((blkM d).view.emb x : S49152x1536.Idx) 0 = (⟨1536 * d.val + 1 * (x 0).val, by
    have h : (x 0).val < 1536 := (x 0).isLt
    have hd : d.val < 32 := d.isLt
    show _ < 49152
    omega⟩ : Fin (S49152x1536.size 0)) := rfl
theorem emb_blk_col (d : Dev nD) (x : S1536x1536.Idx) : (((blkM d).view.emb x : S49152x1536.Idx) 1).val = 0 + 1 * (x 1).val := rfl

theorem outOf_emb (own : Dev nD → Chk F) (d : Dev nD) (x : S1536x1536.Idx) : outOf own ((blkM d).view.emb x) = own d x := by
  have h : (x 0).val < 1536 := (x 0).isLt
  have hd : devOf ((blkM d).view.emb x) = d := Fin.ext (by
    show (((blkM d).view.emb x : S49152x1536.Idx) 0).val / 1536 = d.val
    rw [emb_blk_row]; show (1536 * d.val + 1 * (x 0).val) / 1536 = d.val
    omega)
  have hx : inBlk ((blkM d).view.emb x) = x := funext fun a => Fin.ext (by
    fin_cases a
    · show (((blkM d).view.emb x : S49152x1536.Idx) 0).val % 1536 = (x 0).val
      rw [emb_blk_row]; show (1536 * d.val + 1 * (x 0).val) % 1536 = (x 0).val
      omega
    · show (((blkM d).view.emb x : S49152x1536.Idx) 1).val = (x 1).val
      rw [emb_blk_col]; omega)
  show own (devOf ((blkM d).view.emb x)) (inBlk ((blkM d).view.emb x)) = own d x
  rw [hd, hx]

/-- The chunk copied into its block. -/
theorem blk_copied (own : Dev nD → Chk F) (c d : Dev nD) (fd : Out F) :
    ((blkM d).view.loc (c : Thread nD τ) ↦[(blkM d).view.set]{fullShare}
      ((blkM d).view.write (Elt F) fd (chkM.view.read (Elt F) (own d)) Finset.univ) : sProp 𝕄) = blk c d fullShare (outOf own) := by
  refine pointsTo_congr fun i hi => ?_
  obtain ⟨x, -, rfl⟩ := Finset.mem_map.mp hi
  exact (View.write_emb_of_mem (v := (blkM d).view) fd (chkM.view.read (Elt F) (own d)) (M := Finset.univ) (Finset.mem_univ x)).trans (outOf_emb own d x).symm

/-! ## The blocks of a result -/

theorem blks_univ : (Finset.univ : Finset S49152x1536.Idx) = Finset.univ.biUnion fun d : Dev nD => (blkM d).view.set := by
  ext i
  simp only [Finset.mem_univ, Finset.mem_biUnion, true_and, true_iff]
  exact ⟨devOf i, (mem_blk _ i).mpr rfl⟩

theorem blks_disjoint (d d' : Dev nD) (h : d ≠ d') : Disjoint (blkM d).view.set (blkM d').view.set := by
  rw [Finset.disjoint_left]
  intro i h1 h2
  exact h (Fin.ext (((mem_blk d i).mp h1).symm.trans ((mem_blk d' i).mp h2)))

/-- A device's whole result. -/
abbrev outPts (c : Dev nD) (f : Out F) : sProp 𝕄 := outM.view.loc (c : Thread nD τ) ↦[Finset.univ]{fullShare} f

theorem out_blocks (c : Dev nD) (f : Out F) : outPts c f = bigSep Finset.univ fun d : Dev nD => blk c d fullShare f := by
  have h := pointsTo_biUnion (nD := nD) (τ := τ) (sig := sig) (Ix := ℕ) (Val := Elt F) (Name := ℕ) (U := UU) (Lvl := ℕ) (ℓ := outM.view.loc (c : Thread nD τ)) (q := fullShare) (f := f) (Finset.univ : Finset (Dev nD)) (fun d => (blkM d).view.set)
    (fun d _ d' _ hne => blks_disjoint d d' hne)
  exact Eq.trans (congrArg (fun S => (outM.view.loc (c : Thread nD τ) ↦[S]{fullShare} f : sProp 𝕄)) blks_univ) h

/-! ## The blocks by the stream that brings them -/

/-- The blocks that come in on a stream. -/
def came (s : Bool) (c : Dev nD) : Finset (Dev nD) := (Finset.range (len s)).image fun k => src s c (k + 1)

theorem came_univ : ∀ c : Dev nD, Finset.univ = insert c (came true c ∪ came false c) := by decide +kernel
theorem came_disjoint : ∀ c : Dev nD, Disjoint (came true c) (came false c) := by decide +kernel
theorem came_self : ∀ c : Dev nD, c ∉ came true c ∪ came false c := by decide +kernel
theorem src_inj : ∀ (s : Bool) (c : Dev nD), ∀ k ∈ Finset.range (len s), ∀ k' ∈ Finset.range (len s),
    src s c (k + 1) = src s c (k' + 1) → k = k' := by decide +kernel

theorem all_blocks {M : Type} [URA M] (c : Dev nD) (Φ : Dev nD → sProp M) :
    bigSep Finset.univ Φ = iprop(Φ c ∗ (bigSep (Finset.range (len true)) fun k => Φ (src true c (k + 1)))
      ∗ (bigSep (Finset.range (len false)) fun k => Φ (src false c (k + 1)))) := by
  have hs (s : Bool) : bigSep (came s c) Φ = bigSep (Finset.range (len s)) fun k => Φ (src s c (k + 1)) := by
    unfold came
    exact bigSep_image_of_injOn (M := M) (fun k hk k' hk' e => src_inj s c k hk k' hk' e) Φ
  rw [came_univ c, bigSep_insert (came_self c), bigSep_union (came_disjoint c), hs true, hs false]
  rfl

end Cert.KernelIdeal.RingProof
-- ==== Proof.Start.lean ====
module

public import proofs.«01_k».proof.Proof.Blocks

/-! # What comes before the hops

The chunk's product and its copy into the device's own block, and the barrier between the ring's neighbours. -/

@[expose] public section

set_option maxRecDepth 16384

noncomputable section

namespace Cert.KernelIdeal.RingProof

open Cert.KernelIdeal.Gen
open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type} [FloatOps F]

local notation "𝕄" => MT nD τ sig ℕ (Elt F) ℕ UU ℕ

abbrev lhsM : Memref sig .tc .vmem S1536x768 .f32 := Memref.whole cc0_stg1_0
abbrev rhsM : Memref sig .tc .vmem S768x1536 .f32 := Memref.whole cc0_stg2_0

/-- The left shard in its staging buffer. -/
abbrev lhsPts (c : Dev nD) (a : Vec F S1536x768 .f32) : sProp 𝕄 := lhsM.view.loc (c : Thread nD τ) ↦[Finset.univ]{fullShare} a
/-- The right shard in its staging buffer. -/
abbrev rhsPts (c : Dev nD) (b : Vec F S768x1536 .f32) : sProp 𝕄 := rhsM.view.loc (c : Thread nD τ) ↦[Finset.univ]{fullShare} b

/-- What a device owes from the start lies above level 0. -/
theorem owed_cut (c : Dev nD) (g : GSem nD τ sig) (j : ℕ) (hp : 0 < O₀ c g j) : j ∈ L g ∧ 0 < lv g j := by
  unfold O₀ at hp
  simp only [Pi.add_apply, Finsupp.add_apply] at hp
  rcases Nat.add_pos_iff_pos_or_pos.mp hp with hp | hp
  · rcases Nat.add_pos_iff_pos_or_pos.mp hp with hp | hp
    · rcases Nat.add_pos_iff_pos_or_pos.mp hp with hp | hp
      · obtain ⟨k, h1, h2, rfl, rfl⟩ := owedFrom_pos hp
        exact ⟨mem_L _ _ (lt_of_lt_of_le h2 (len_le _)), by rw [lv_rcv]; omega⟩
      · obtain ⟨k, h1, h2, rfl, rfl⟩ := owedFrom_pos hp
        exact ⟨mem_L _ _ (lt_of_lt_of_le h2 (len_le _)), by rw [lv_rcv]; omega⟩
    · rw [tallyAt_apply] at hp
      by_cases e : g = bar (nxt true c) ∧ j = 0
      · obtain ⟨rfl, rfl⟩ := e; exact ⟨mem_L _ _ (by omega), by rw [lv_bar]; omega⟩
      · rw [if_neg e] at hp; exact absurd hp (lt_irrefl 0)
  · rw [tallyAt_apply] at hp
    by_cases e : g = bar (nxt false c) ∧ j = 0
    · obtain ⟨rfl, rfl⟩ := e; exact ⟨mem_L _ _ (by omega), by rw [lv_bar]; omega⟩
    · rw [if_neg e] at hp; exact absurd hp (lt_irrefl 0)

/-- A wait at level 0 is allowed with everything owed. -/
theorem mayWait_first (c : Dev nD) (sm : SemLoc sig) {i : ℕ} (hi : i < 16) (hl : lv ((c : Thread nD τ), sm) i ≤ 0) :
    (levAts L lv : sProp 𝕄) ⊢ MayWait (c : Thread nD τ) sm i (O₀ c) := by
  exact MayOwe.of_cut (L := L) (lev := lv) 0
    (fun p hp => by rw [Finset.mem_singleton.mp hp]; exact mem_L c sm hi)
    (fun g j hp => (owed_cut c g j hp).1)
    (fun p hp => by rw [Finset.mem_singleton.mp hp]; exact hl)
    (fun g j hp => (owed_cut c g j hp).2)

variable (own : Dev nD → Chk F) (K : GSem nD τ sig → ℕ)

set_option maxHeartbeats 800000 in
/-- The copy of the chunk into the own block, and the wait for it. -/
theorem wp_ownCopy (c : Dev nD) (o : Fin 2 → Nat) (ho : ∀ a, o a + S1536x1536.size a ≤ S49152x1536.size a)
    (eo : o = ![1536 * c.val, 0]) (fd : Out F) (h4 : chkM.IsWhole) (k : PUnit → Body F Unit) (Q : Unit → sProp 𝕄) :
    iprop(invs (outOf own) own K ∗ levAts L lv ∗ chk c (own c) ∗ blk c c fullShare fd ∗ dutyTok ER (cpy c) 0 false
        ∗ atPos ER (cpy c) 0 ∅ 0 ∗ reached ER (cpy c) 0 ∗ owesE c (O₀ c))
      ⊢ iprop((iprop(chk c (own c) ∗ blk c c fullShare (outOf own) ∗ atPos ER (cpy c) 1 ∅ 0 ∗ owesE c (O₀ c))
          -∗ wp frame (wpE (defs₀ (F := F)) 𝒱₀ c none) Set.univ (k ⟨⟩) Q)
        -∗ wp frame (wpE (defs₀ (F := F)) 𝒱₀ c none) Set.univ (.op (.enqueueDma chkM (.here (blkAt outM o ho)) (.dma cc0_scratch1.sem) h4.wordExact (View.wordExact_bits rfl) ⟨Or.inl rfl, trivial⟩)
            fun _ => .op (.waitDma2 cc0_scratch1.sem chkM (blkAt outM o ho) h4.wordExact (View.wordExact_bits rfl)) k) Q) := by
  subst eo
  unfold owesE
  iintro ⟨#HI, #Hlev, Hc, Hb, Ht, Ha, #Hr, ⟨%W, HO⟩⟩ Hk
  iapply (Rounds.wp_copy_pointsTo 𝒱₀ ER (sched (outOf own) own) (c : Thread nD τ) none (src := chkM) (dst := blkM c) (sem := .dma cc0_scratch1.sem)
      (q := fullShare) (fs := own c) (fd := fd) (r := 0) (d := false) (κ := K (cpy c))
      (by rw [duties_cpy]; exact Finset.mem_singleton_self _) 0 N (amount_blk _ _ _) (amount_cpy (outOf own) own c 0 false)
      (by rw [payload_cpy]; unfold cpyPay; rw [blk_copied])) $$ [Hc Hb Ht]
  · isplitr; · iapply (inv_at (outOf own) own K (cpy_mem c)); iexact HI
    isplitl [Hc]; · iexact Hc
    isplitl [Hb]; · iexact Hb
    isplitl [Ht]; · iexact Ht
    iexact Hr
  iintro Hcr
  iapply (Rounds.wp_wait_rest_token 𝒱₀ ER (sched (outOf own) own) (c : Thread nD τ) none (κ := K (cpy c))
      (wpE_waitDma2_eq (src := chkM) (dst := blkM c) 𝒱₀ (c : Thread nD τ) none Set.univ) (Set.mem_univ _) 0
      (O := O₀ c) (W := W) (R := 0) (m := 0) (T := ∅)
      ((Nat.zero_add _).trans ((credit_blk _ _).trans (expect_cpy (outOf own) own c).symm))) $$ [Hcr HO Ha]
  · isplitr; · iapply (inv_at (outOf own) own K (cpy_mem c)); iexact HI
    isplitl [Hcr]; · iexact Hcr
    isplitl [HO]; · iexact HO
    isplitr
    · iapply (mayWait_first (F := F) c (.dma cc0_scratch1.sem) (i := 0) (by omega) (le_refl 0)); iexact Hlev
    iexact Ha
  iintro ⟨HO, Ha, -, Hpay⟩
  ihave Hp := (Entails.of_eq (rest_cpy (outOf own) own c)) $$ Hpay
  unfold cpyPay
  icases Hp with ⟨Hb, Hc⟩
  iapply Hk
  isplitl [Hc]; · iexact Hc
  isplitl [Hb]; · iexact Hb
  isplitl [Ha]; · iexact Ha
  iexists _; iexact HO

theorem zeros2 {n : ℕ} (h : n = 2) : (![0, 0] : Fin 2 → Nat) = fun _ => 0 := by
  funext a; fin_cases a <;> rfl

/-- The scratch chunk after the store. -/
theorem chunk_stored (c : Dev nD) (a : Vec F S1536x768 .f32) (b : Vec F S768x1536 .f32) (f : Chk F) (hown : own c = k0_pay1 a b) :
    ((chkM.access (Rect.unit (s := S1536x1536) ![0, 0] S1536x1536.size inb_S1536x1536_S1536x1536_0_0)).loc (c : Thread nD τ) ↦[chkM.view.set]{fullShare}
      ((chkM.access (Rect.unit (s := S1536x1536) ![0, 0] S1536x1536.size inb_S1536x1536_S1536x1536_0_0)).write (Elt F) f
        (k0_pay1 (lhsM.view.readAt (Elt F) (Rect.unit (s := S1536x768) ![0, 0] S1536x768.size inb_S1536x768_S1536x768_0_0).toLoadRect a)
          (rhsM.view.readAt (Elt F) (Rect.unit (s := S768x1536) ![0, 0] S768x1536.size inb_S768x1536_S768x1536_0_0).toLoadRect b)) Finset.univ) : sProp 𝕄)
      = chk c (own c) := by
  have e1 := Memref.readAt_unit_zero (Elt F) cc0_stg1_0 (zeros2 rfl) inb_S1536x768_S1536x768_0_0 a
  have e2 := Memref.readAt_unit_zero (Elt F) cc0_stg2_0 (zeros2 rfl) inb_S768x1536_S768x1536_0_0 b
  have e3 := Memref.write_access_unit_zero_univ (Elt F) cc0_scratch0 (zeros2 rfl) inb_S1536x1536_S1536x1536_0_0 f (own c)
  have e4 := (congr (congrArg (k0_pay1 (F := F)) e1) e2).trans hown.symm
  exact congrArg (fun g => (chkM.view.loc (c : Thread nD τ) ↦[chkM.view.set]{fullShare} g : sProp 𝕄))
    ((congrArg (fun w => (chkM.access (Rect.unit (s := S1536x1536) ![0, 0] S1536x1536.size inb_S1536x1536_S1536x1536_0_0)).write (Elt F) f w Finset.univ) e4).trans e3)

set_option maxHeartbeats 800000 in
/-- The chunk's product, in the scratch buffer and in the device's own block. -/
theorem wp_chunk (c : Dev nD) (a : Vec F S1536x768 .f32) (b : Vec F S768x1536 .f32) (f : Chk F) (fd : Out F) (h4 : chkM.IsWhole)
    (hown : own c = k0_pay1 a b) (k : PUnit → Body F Unit) (Q : Unit → sProp 𝕄) :
    iprop(invs (outOf own) own K ∗ levAts L lv ∗ lhsPts c a ∗ rhsPts c b ∗ chk c f ∗ blk c c fullShare fd ∗ dutyTok ER (cpy c) 0 false
        ∗ atPos ER (cpy c) 0 ∅ 0 ∗ reached ER (cpy c) 0 ∗ owesE c (O₀ c))
      ⊢ iprop((iprop(lhsPts c a ∗ rhsPts c b ∗ chk c (own c) ∗ blk c c fullShare (outOf own) ∗ atPos ER (cpy c) 1 ∅ 0 ∗ owesE c (O₀ c))
          -∗ wp frame (wpE (defs₀ (F := F)) 𝒱₀ c none) Set.univ (k ⟨⟩) Q)
        -∗ wp frame (wpE (defs₀ (F := F)) 𝒱₀ c none) Set.univ (chunk lhsM rhsM outM chkM h4 cc0_scratch1 c >>= k) Q) := by
  unfold chunk
  simp only [Prog.bind_op, Prog.bind_ret, Prog.lift, Prog.bind_assoc]
  iintro ⟨#HI, #Hlev, Hl, Hrh, Hc, Hb, Ht, Ha, #Hr, HO⟩ Hk
  iapply (wp_load 𝒱₀ (c : Thread nD τ) none Set.univ (m := lhsM) (S := Finset.univ) (q := fullShare) (f := a) (Finset.subset_univ _)) $$ Hl
  iintro Hl
  iapply (wp_load 𝒱₀ (c : Thread nD τ) none Set.univ (m := rhsM) (S := Finset.univ) (q := fullShare) (f := b) (Finset.subset_univ _)) $$ Hrh
  iintro Hrh
  iapply (wp_load 𝒱₀ (c : Thread nD τ) none Set.univ (m := chkM) (S := chkM.view.set) (q := fullShare) (f := f) (by rw [View.set_whole]; exact Finset.subset_univ _)) $$ Hc
  iintro Hc
  iapply (wp_store 𝒱₀ (c : Thread nD τ) none Set.univ (m := chkM) (r := Rect.unit (s := S1536x1536) ![0, 0] S1536x1536.size inb_S1536x1536_S1536x1536_0_0) (S := chkM.view.set) (f := f) (by rw [View.set_whole]; exact Finset.subset_univ _)) $$ Hc
  iintro Hc
  ihave Hc := (Entails.of_eq (chunk_stored own c a b f hown)) $$ Hc
  iapply (wp_ownCopy own K c _ _ (off1_eq c) fd h4) $$ [Hc Hb Ht Ha HO]
  · isplitr; · iexact HI
    isplitr; · iexact Hlev
    isplitl [Hc]; · iexact Hc
    isplitl [Hb]; · iexact Hb
    isplitl [Ht]; · iexact Ht
    isplitl [Ha]; · iexact Ha
    isplitr; · iexact Hr
    iexact HO
  iintro ⟨Hc, Hb, Ha, HO⟩
  iapply Hk
  isplitl [Hl]; · iexact Hl
  isplitl [Hrh]; · iexact Hrh
  isplitl [Hc]; · iexact Hc
  isplitl [Hb]; · iexact Hb
  isplitl [Ha]; · iexact Ha
  iexact HO

/-- What a device pays to the barrier of the neighbour before it on a stream: its own blocks that this neighbour
    is to write. -/
theorem barPay_before (s : Bool) (c : Dev nD) : (barPay (nxt (!s) c) s : sProp 𝕄)
    = iprop((bigSep (Finset.range (len s)) fun k => blkAny (F := F) c (src s c (k + 1))) ∗ reached ER (rcv s c 0) 0) := by
  have h (k : ℕ) : src s (nxt (!s) c) k = src s c (k + 1) := by
    rw [← src_succ s (nxt (!s) c) k, nxt_nxt']
  unfold barPay
  simp only [h, nxt_nxt']

set_option maxHeartbeats 800000 in
/-- The barrier: the device's blocks go to its neighbours, and theirs come. -/
theorem wp_barrier (c : Dev nD) (k : PUnit → Body F Unit) (Q : Unit → sProp 𝕄) :
    iprop(invs (outOf own) own K ∗ levAts L lv
        ∗ (bigSep (Finset.range (len true)) fun k => blkAny (F := F) c (src true c (k + 1)))
        ∗ (bigSep (Finset.range (len false)) fun k => blkAny (F := F) c (src false c (k + 1)))
        ∗ reached ER (rcv true c 0) 0 ∗ reached ER (rcv false c 0) 0
        ∗ dutyTok ER (bar (nxt true c)) 0 false ∗ dutyTok ER (bar (nxt false c)) 0 true
        ∗ reached ER (bar (nxt true c)) 0 ∗ reached ER (bar (nxt false c)) 0
        ∗ atPos ER (bar c) 0 ∅ 0 ∗ cred (tallyAt (bar c) 0 2) ∗ owesE c (O₀ c))
      ⊢ iprop((iprop(barPay (F := F) c true ∗ barPay (F := F) c false ∗ atPos ER (bar c) 1 ∅ 0 ∗ owesE c (owedFrom true c 0 + owedFrom false c 0))
          -∗ wp frame (wpE (defs₀ (F := F)) 𝒱₀ c none) Set.univ (k ⟨⟩) Q)
        -∗ wp frame (wpE (defs₀ (F := F)) 𝒱₀ c none) Set.univ (barrier (nxt true c) (nxt false c) >>= k) Q) := by
  unfold barrier owesE
  simp only [semSignalWord, semWaitWord, Prog.bind_op, Prog.bind_ret, Prog.lift, Prog.bind_assoc]
  iintro ⟨#HI, #Hlev, Hbr, Hbl, #Hr0, #Hl0, Htr, Htl, #Hrr, #Hrl, Ha, Hcr, ⟨%W, HO⟩⟩ Hk
  iapply (Rounds.wp_signal 𝒱₀ ER (sched (outOf own) own) (c : Thread nD τ) none (dst := (nxt false c : Thread nD τ)) (sem := barSem) (r := 0) (d := true)
      (κ := K (bar (nxt false c)))
      (by rw [duties_bar]; exact Finset.mem_univ _) (amount_bar (outOf own) own (nxt false c) 0 true) 0
      (owedFrom true c 0 + owedFrom false c 0 + tallyAt (bar (nxt true c)) 0 1) rfl) $$ [HO Htl Hbr]
  · isplitr; · iapply (inv_at (outOf own) own K (bar_mem (nxt false c))); iexact HI
    isplitl [HO]; · iexact HO
    isplitl [Htl]; · iexact Htl
    isplitl [Hbr]
    · rw [payload_bar]
      iapply (Entails.of_eq (barPay_before (F := F) true c).symm)
      isplitl [Hbr]; · iexact Hbr
      iexact Hr0
    iexact Hrl
  iintro HO
  iapply (Rounds.wp_signal 𝒱₀ ER (sched (outOf own) own) (c : Thread nD τ) none (dst := (nxt true c : Thread nD τ)) (sem := barSem) (r := 0) (d := false)
      (κ := K (bar (nxt true c)))
      (by rw [duties_bar]; exact Finset.mem_univ _) (amount_bar (outOf own) own (nxt true c) 0 false) 0
      (owedFrom true c 0 + owedFrom false c 0) rfl) $$ [HO Htr Hbl]
  · isplitr; · iapply (inv_at (outOf own) own K (bar_mem (nxt true c))); iexact HI
    isplitl [HO]; · iexact HO
    isplitl [Htr]; · iexact Htr
    isplitl [Hbl]
    · rw [payload_bar]
      iapply (Entails.of_eq (barPay_before (F := F) false c).symm)
      isplitl [Hbl]; · iexact Hbl
      iexact Hl0
    iexact Hrr
  iintro HO
  iapply (Rounds.wp_wait_rest_token 𝒱₀ ER (sched (outOf own) own) (c : Thread nD τ) none (κ := K (bar c))
      (wpE_semWait_eq 𝒱₀ (c : Thread nD τ) none Set.univ) (Set.mem_univ _) 0 (O := owedFrom true c 0 + owedFrom false c 0) (W := W) (R := 0) (m := 0) (T := ∅)
      ((Nat.zero_add 2).trans (expect_bar (outOf own) own c).symm)) $$ [Hcr HO Ha]
  · isplitr; · iapply (inv_at (outOf own) own K (bar_mem c)); iexact HI
    isplitl [Hcr]; · iexact Hcr
    isplitl [HO]; · iexact HO
    isplitr
    · iapply (mayWait (F := F) c (.reg barSem) (i := 0) (h := 0) (by omega) (le_refl 1)); iexact Hlev
    iexact Ha
  iintro ⟨HO, Ha, -, Hpay⟩
  ihave Hp := (Entails.of_eq (rest_bar (outOf own) own c)) $$ Hpay
  icases Hp with ⟨Hpr, Hpl⟩
  iapply Hk
  isplitl [Hpr]; · iexact Hpr
  isplitl [Hpl]; · iexact Hpl
  isplitl [Ha]; · iexact Ha
  iexists _; iexact HO

end Cert.KernelIdeal.RingProof
-- ==== Proof.Body.lean ====
module

public import proofs.«01_k».proof.Proof.Start

/-! # The whole body

What a device holds when the body starts, what it holds at its end, and that the body takes the one to the other: every
device ends with the whole result, each block of it the chunk of its device, every counter of the kernel at zero. -/

@[expose] public section

set_option maxRecDepth 16384

noncomputable section

namespace Cert.KernelIdeal.RingProof

open Cert.KernelIdeal.Gen
open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type} [FloatOps F]

local notation "𝕄" => MT nD τ sig ℕ (Elt F) ℕ UU ℕ

/-! ## What a device carries -/

/-- What a device brings for a stream: the duties it pays on both ends of every hop, its credits for what comes in,
    and its duty on the neighbour's barrier. -/
def Strm (s : Bool) (c : Dev nD) : sProp 𝕄 :=
  iprop((bigSep (Finset.range (len s)) fun k => dutyTok ER (snd s c k) (k / 2) false)
    ∗ (bigSep (Finset.range (len s)) fun k => dutyTok ER (rcv s (nxt s c) k) (k / 2) false)
    ∗ (bigSep (Finset.range (len s)) fun k => cred (tallyAt (rcv s c k) k N))
    ∗ dutyTok ER (bar (nxt s c)) 0 (!s) ∗ reached ER (bar (nxt s c)) 0)

/-- What a device carries from the launch to the kernel, but for the right to open its own cells. -/
def Toks (c : Dev nD) : sProp 𝕄 :=
  iprop(atPos ER (bar c) 0 ∅ 0 ∗ cred (tallyAt (bar c) 0 2) ∗ dutyTok ER (cpy c) 0 false ∗ Strm (F := F) true c ∗ Strm (F := F) false c)

/-- The kernel's own cells of a device, open and at their first rounds. -/
def Opened (c : Dev nD) : sProp 𝕄 :=
  bigSep Finset.univ fun k : Fin 9 => iprop(atPos ER ((c : Thread nD τ), osem k) 0 ∅ 0 ∗ reached ER ((c : Thread nD τ), osem k) 0)

/-- A family over the nine own semaphores, one by one. -/
theorem nine {M : Type} [URA M] (Φ : Fin 9 → sProp M) :
    bigSep Finset.univ Φ = iprop(Φ 0 ∗ Φ 1 ∗ Φ 2 ∗ Φ 3 ∗ Φ 4 ∗ Φ 5 ∗ Φ 6 ∗ Φ 7 ∗ Φ 8) := by
  rw [show (Finset.univ : Finset (Fin 9)) = {0, 1, 2, 3, 4, 5, 6, 7, 8} from by decide,
    bigSep_insert (by decide), bigSep_insert (by decide), bigSep_insert (by decide), bigSep_insert (by decide),
    bigSep_insert (by decide), bigSep_insert (by decide), bigSep_insert (by decide), bigSep_insert (by decide), bigSep_singleton]
  rfl

/-- The positions the streams start from. -/
theorem opened_pos (c : Dev nD) : (Opened c : sProp 𝕄)
    ⊢ iprop((atPos ER (cpy c) 0 ∅ 0 ∗ reached ER (cpy c) 0) ∗ Pos true c 0 ∗ Pos false c 0) := by
  unfold Opened
  rw [nine]
  unfold Pos
  iintro ⟨⟨Ha0, Hr0⟩, ⟨Ha1, Hr1⟩, ⟨Ha2, Hr2⟩, ⟨Ha3, Hr3⟩, ⟨Ha4, Hr4⟩, ⟨Ha5, Hr5⟩, ⟨Ha6, Hr6⟩, ⟨Ha7, Hr7⟩, ⟨Ha8, Hr8⟩⟩
  isplitl [Ha0 Hr0]
  · isplitl [Ha0]; · iexact Ha0
    iexact Hr0
  isplitl [Ha1 Ha2 Ha3 Ha4 Hr1 Hr2 Hr3 Hr4]
  · isplitl [Ha1]; · iexact Ha1
    isplitl [Ha2]; · iexact Ha2
    isplitl [Ha3]; · iexact Ha3
    isplitl [Ha4]; · iexact Ha4
    isplitl [Hr1]; · iexact Hr1
    isplitl [Hr2]; · iexact Hr2
    isplitl [Hr3]; · iexact Hr3
    iexact Hr4
  isplitl [Ha5]; · iexact Ha5
  isplitl [Ha6]; · iexact Ha6
  isplitl [Ha7]; · iexact Ha7
  isplitl [Ha8]; · iexact Ha8
  isplitl [Hr5]; · iexact Hr5
  isplitl [Hr6]; · iexact Hr6
  isplitl [Hr7]; · iexact Hr7
  iexact Hr8

section Streams

variable (fin : Out F) (own : Dev nD → Chk F) (K : GSem nD τ sig → ℕ)

/-- The two halves of the own block, one for either stream's first hop. -/
theorem halves (c : Dev nD) : (blk c c fullShare fin : sProp 𝕄)
    ⊣⊢ iprop(blk c (src true c 0) (shr true 0) fin ∗ blk c (src false c 0) (shr false 0) fin) := by
  rw [src_zero, src_zero]
  exact pointsTo_share (PosShare.mem_left_op_right fullShare)

/-- A stream before its first hop. -/
theorem idle_intro (s : Bool) (c : Dev nD) : iprop(Pos s c 0 ∗ blk c (src s c 0) (shr s 0) fin
      ∗ (bigSep (Finset.range (len s)) fun k => dutyTok ER (snd s c k) (k / 2) false)
      ∗ (bigSep (Finset.range (len s)) fun k => dutyTok ER (rcv s (nxt s c) k) (k / 2) false)
      ∗ (bigSep (Finset.range (len s)) fun k => blkAny (F := F) (nxt s c) (src s c k))
      ∗ (bigSep (Finset.range (len s)) fun k => cred (tallyAt (rcv s c k) k N)))
    ⊢ Idle fin s c 0 := by
  unfold Idle Got Todo
  rw [← Finset.range_eq_Ico, Finset.range_zero, bigSep_empty, bigSep_sep', bigSep_sep', bigSep_sep']
  iintro ⟨HP, Hb, H1, H2, H3, H4⟩
  isplitl [HP]; · iexact HP
  isplitl [H1 H2 H3 H4]
  · isplitl [H1]; · iexact H1
    isplitl [H2]; · iexact H2
    isplitl [H3]; · iexact H3
    iexact H4
  isplitl [Hb]; · iexact Hb
  iempintro

theorem range_shift (Φ : ℕ → sProp 𝕄) (n : ℕ) :
    iprop(Φ n ∗ bigSep (Finset.range n) Φ) ⊢ iprop(Φ 0 ∗ bigSep (Finset.range n) fun k => Φ (k + 1)) := by
  induction n with
  | zero => exact BI.Entails.refl _
  | succ n ih =>
    have e (Ψ : ℕ → sProp 𝕄) : bigSep (Finset.range (n + 1)) Ψ = iprop(Ψ n ∗ bigSep (Finset.range n) Ψ) := by
      rw [Finset.range_add_one, bigSep_insert Finset.notMem_range_self]; rfl
    rw [e, e]
    iintro ⟨H1, H2⟩
    ihave H := ih $$ H2
    icases H with ⟨H0, H⟩
    isplitl [H0]; · iexact H0
    isplitl [H1]; · iexact H1
    iexact H

/-- A stream after its last hop has all its blocks, and its part of the own one. -/
theorem idle_end (s : Bool) (c : Dev nD) : Idle fin s c (len s) ⊢ iprop(Pos s c (len s) ∗ blk c (src s c 0) (shr s 0) fin
    ∗ bigSep (Finset.range (len s)) fun k => blk c (src s c (k + 1)) fullShare fin) := by
  have h := range_shift (F := F) (fun k => blk c (src s c k) (shr s k) fin) (len s)
  simp only [shr_succ] at h
  unfold Idle Got
  iintro ⟨HP, -, Hb, Hg⟩
  isplitl [HP]; · iexact HP
  iapply h
  isplitl [Hb]; · iexact Hb
  iexact Hg

/-- The whole result of a device whose streams are at their ends. -/
theorem all_in (c : Dev nD) : iprop((blk c (src true c 0) (shr true 0) fin ∗ bigSep (Finset.range (len true)) fun k => blk c (src true c (k + 1)) fullShare fin)
      ∗ blk c (src false c 0) (shr false 0) fin ∗ bigSep (Finset.range (len false)) fun k => blk c (src false c (k + 1)) fullShare fin)
    ⊢ (outPts c fin : sProp 𝕄) := by
  rw [out_blocks, all_blocks c]
  iintro ⟨⟨H1, Hr⟩, H2, Hl⟩
  isplitl [H1 H2]
  · iapply (halves fin c).2
    isplitl [H1]; · iexact H1
    iexact H2
  isplitl [Hr]; · iexact Hr
  iexact Hl

/-! ## The counters at the end -/

theorem close_at {g : GSem nD τ sig} (hg : g ∈ (barCells ∪ scCells : Finset (GSem nD τ sig))) {R : ℕ}
    (hR : ∀ r, R ≤ r → (sched fin own).duties g r = ∅) :
    iprop(invs fin own K ∗ atPos ER g R ∅ 0) ⊢ (|={Set.univ}=> semVal g 0 : sProp 𝕄) :=
  (sep_mono_left (inv_at fin own K hg)).trans (Rounds.cell_close ER (sched fin own) (Set.mem_univ (K g)) id hR)

/-- A stream's four counters after its last hop. -/
theorem close_stream (s : Bool) (c : Dev nD) : iprop(invs fin own K ∗ Pos s c (len s))
    ⊢ (|={Set.univ}=> (semVal (snd s c (len s)) 0 ∗ semVal (snd s c (len s + 1)) 0 ∗ semVal (rcv s c (len s)) 0 ∗ semVal (rcv s c (len s + 1)) 0) : sProp 𝕄) := by
  unfold Pos
  iintro ⟨#HI, H1, H2, H3, H4, -, -, -, -⟩
  imod (close_at fin own K (snd_mem s c (len s)) (later_snd fin own s c (len s) (le_refl _))) $$ [H1] with H1
  · isplitr; · iexact HI
    iexact H1
  imod (close_at fin own K (snd_mem s c (len s + 1)) (later_snd fin own s c (len s + 1) (Nat.le_succ _))) $$ [H2] with H2
  · isplitr; · iexact HI
    iexact H2
  imod (close_at fin own K (rcv_mem s c (len s)) (later_rcv fin own s c (len s) (le_refl _))) $$ [H3] with H3
  · isplitr; · iexact HI
    iexact H3
  imod (close_at fin own K (rcv_mem s c (len s + 1)) (later_rcv fin own s c (len s + 1) (Nat.le_succ _))) $$ [H4] with H4
  · isplitr; · iexact HI
    iexact H4
  imodintro
  isplitl [H1]; · iexact H1
  isplitl [H2]; · iexact H2
  isplitl [H3]; · iexact H3
  iexact H4

/-- The nine own counters of a device, from its copy cell's and its streams'. -/
theorem own_zero (c : Dev nD) : iprop(semVal (cpy c) 0
      ∗ (semVal (snd true c 16) 0 ∗ semVal (snd true c 17) 0 ∗ semVal (rcv true c 16) 0 ∗ semVal (rcv true c 17) 0)
      ∗ (semVal (snd false c 15) 0 ∗ semVal (snd false c 16) 0 ∗ semVal (rcv false c 15) 0 ∗ semVal (rcv false c 16) 0))
    ⊢ (Pipeline.ownSems0 osem c : sProp 𝕄) := by
  unfold Pipeline.ownSems0
  rw [nine]
  iintro ⟨H0, ⟨H1, H2, H3, H4⟩, H6, H5, H8, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Streams

/-! ## The body -/

variable (own : Dev nD → Chk F) (K : GSem nD τ sig → ℕ)

/-- What the body starts from. -/
def bodyPre (c : Dev nD) (a : Vec F S1536x768 .f32) (b : Vec F S768x1536 .f32) : sProp 𝕄 :=
  iprop(invs (outOf own) own K ∗ levAts L lv ∗ Opened (F := F) c ∗ Toks (F := F) c ∗ tabPts (F := F) c ∗ lhsPts c a ∗ rhsPts c b
    ∗ (∃ f, chk (F := F) c f) ∗ (∃ f, outPts (F := F) c f) ∗ owesE c (O₀ c))

/-- What the body ends with. -/
def bodyPost (c : Dev nD) (a : Vec F S1536x768 .f32) (b : Vec F S768x1536 .f32) : sProp 𝕄 :=
  iprop(semVal (bar c) 0 ∗ Pipeline.ownSems0 osem c ∗ tabPts (F := F) c ∗ lhsPts c a ∗ rhsPts c b
    ∗ (∃ f, chk (F := F) c f) ∗ outPts c (outOf own) ∗ owesE c 0)

theorem any_blocks (c : Dev nD) (s : Bool) (f : Out F) : (bigSep (Finset.range (len s)) fun k => blk c (src s c (k + 1)) fullShare f)
    ⊢ (bigSep (Finset.range (len s)) fun k => blkAny (F := F) c (src s c (k + 1)) : sProp 𝕄) :=
  bigSep_mono fun k _ => Idealize.SL.BI.BIClass.exists_intro (Φ := fun f : Out F => blk c (src s c (k + 1)) fullShare f) f

set_option maxHeartbeats 1600000 in
/-- The body, run on one device. -/
theorem wp_body (c : Dev nD) (a : Vec F S1536x768 .f32) (b : Vec F S768x1536 .f32) (h4 : chkM.IsWhole) (hown : own c = k0_pay1 a b)
    (Q : Unit → sProp 𝕄) :
    iprop(bodyPre own K c a b ∗ (bodyPost own c a b -∗ Q ⟨⟩))
      ⊢ wp frame (wpE (defs₀ (F := F)) 𝒱₀ c none) Set.univ
          (loopBody tabM lhsM rhsM outM chkM h4 cc0_scratch1 (sndA true) (rcvA true) (sndA false) (rcvA false)) Q := by
  rw [← Prog.bind_pure (loopBody (F := F) tabM lhsM rhsM outM chkM h4 cc0_scratch1 (sndA true) (rcvA true) (sndA false) (rcvA false))]
  unfold loopBody bodyPre Toks Strm
  simp only [Prog.bind_assoc]
  simp only [Prog.lift, Prog.bind_op, Prog.bind_ret, wp_deviceId]
  iintro ⟨⟨#HI, #Hlev, Hop, ⟨HaB, HcB, HtC, ⟨HsR, HvR, HkR, HtR, #HrR⟩, HsL, HvL, HkL, HtL, #HrL⟩, Ht, Hl, Hr, ⟨%f, Hc⟩, ⟨%g, Ho⟩, HO⟩, Hk⟩
  ihave Hop' := (opened_pos (F := F) c) $$ Hop
  icases Hop' with ⟨⟨HaC, #HrC⟩, HPR, HPL⟩
  iapply (wp_word c 0) $$ Ht
  iintro Ht
  rw [show entry c 0 = nxt true c from rfl]
  simp only [Prog.lift, Prog.bind_op, Prog.bind_ret, wp_assume_of _ _ _ _ (d := k0_chk2.dec _) (chk2_wd (nxt true c))]
  iapply (wp_word c 1) $$ Ht
  iintro Ht
  rw [show entry c 1 = nxt false c from rfl]
  simp only [Prog.lift, Prog.bind_op, Prog.bind_ret, wp_assume_of _ _ _ _ (d := k0_chk1.dec _) (chk1_wd (nxt false c))]
  have eR : (⟨k0_dev3 (wd (nxt true c)), k0_dev3_lt (wd (nxt true c)) (chk2_wd (nxt true c))⟩ : Dev nD) = nxt true c := Fin.ext (dev3_wd _)
  have eL : (⟨k0_dev4 (wd (nxt false c)), k0_dev4_lt (wd (nxt false c)) (chk1_wd (nxt false c))⟩ : Dev nD) = nxt false c := Fin.ext (dev4_wd _)
  rw [eR, eL]
  -- the result's blocks
  ihave Ho := (Entails.of_eq ((out_blocks c g).trans (all_blocks c _))) $$ Ho
  icases Ho with ⟨Hb, HbR, HbL⟩
  ihave HbR := (any_blocks c true g) $$ HbR
  ihave HbL := (any_blocks c false g) $$ HbL
  iapply (wp_chunk own K c a b f g h4 hown) $$ [Hl Hr Hc Hb HtC HaC HO]
  · isplitr; · iexact HI
    isplitr; · iexact Hlev
    isplitl [Hl]; · iexact Hl
    isplitl [Hr]; · iexact Hr
    isplitl [Hc]; · iexact Hc
    isplitl [Hb]; · iexact Hb
    isplitl [HtC]; · iexact HtC
    isplitl [HaC]; · iexact HaC
    isplitr; · iexact HrC
    iexact HO
  iintro ⟨Hl, Hr, Hc, Hb, HaC, HO⟩
  ihave HPR' := (Entails.of_eq (show Pos (F := F) true c 0 = _ by unfold Pos; rfl)) $$ HPR
  icases HPR' with ⟨Hp1, Hp2, Hp3, Hp4, Hq1, Hq2, #Hq3, Hq4⟩
  ihave HPL' := (Entails.of_eq (show Pos (F := F) false c 0 = _ by unfold Pos; rfl)) $$ HPL
  icases HPL' with ⟨Hm1, Hm2, Hm3, Hm4, Hn1, Hn2, #Hn3, Hn4⟩
  iapply (wp_barrier own K c) $$ [HbR HbL HtR HtL HaB HcB HO]
  · isplitr; · iexact HI
    isplitr; · iexact Hlev
    isplitl [HbR]; · iexact HbR
    isplitl [HbL]; · iexact HbL
    isplitr; · iexact Hq3
    isplitr; · iexact Hn3
    isplitl [HtR]; · iexact HtR
    isplitl [HtL]; · iexact HtL
    isplitr; · iexact HrR
    isplitr; · iexact HrL
    isplitl [HaB]; · iexact HaB
    isplitl [HcB]; · iexact HcB
    iexact HO
  unfold barPay
  iintro ⟨⟨HbR, #HyR⟩, ⟨HbL, #HyL⟩, HaB, HO⟩
  ihave Hb := (halves (outOf own) c).1 $$ Hb
  icases Hb with ⟨Hb1, Hb2⟩
  iapply (wp_firstHop (outOf own) own K c) $$ [Hp1 Hp2 Hp3 Hp4 Hq1 Hq2 Hq4 Hm1 Hm2 Hm3 Hm4 Hn1 Hn2 Hn4 Hb1 Hb2 HsR HvR HbR HkR HsL HvL HbL HkL HO]
  · isplitr; · iexact HI
    isplitr; · iexact Hlev
    unfold Both
    isplitl [Hp1 Hp2 Hp3 Hp4 Hq1 Hq2 Hq4 Hb1 HsR HvR HbR HkR]
    · iapply (idle_intro (outOf own) true c)
      isplitl [Hp1 Hp2 Hp3 Hp4 Hq1 Hq2 Hq4]
      · unfold Pos
        isplitl [Hp1]; · iexact Hp1
        isplitl [Hp2]; · iexact Hp2
        isplitl [Hp3]; · iexact Hp3
        isplitl [Hp4]; · iexact Hp4
        isplitl [Hq1]; · iexact Hq1
        isplitl [Hq2]; · iexact Hq2
        isplitr; · iexact Hq3
        iexact Hq4
      isplitl [Hb1]; · iexact Hb1
      isplitl [HsR]; · iexact HsR
      isplitl [HvR]; · iexact HvR
      isplitl [HbR]; · iexact HbR
      iexact HkR
    isplitl [Hm1 Hm2 Hm3 Hm4 Hn1 Hn2 Hn4 Hb2 HsL HvL HbL HkL]
    · iapply (idle_intro (outOf own) false c)
      isplitl [Hm1 Hm2 Hm3 Hm4 Hn1 Hn2 Hn4]
      · unfold Pos
        isplitl [Hm1]; · iexact Hm1
        isplitl [Hm2]; · iexact Hm2
        isplitl [Hm3]; · iexact Hm3
        isplitl [Hm4]; · iexact Hm4
        isplitl [Hn1]; · iexact Hn1
        isplitl [Hn2]; · iexact Hn2
        isplitr; · iexact Hn3
        iexact Hn4
      isplitl [Hb2]; · iexact Hb2
      isplitl [HsL]; · iexact HsL
      isplitl [HvL]; · iexact HvL
      isplitl [HbL]; · iexact HbL
      iexact HkL
    isplitr; · iexact HyR
    isplitr; · iexact HyL
    iexact HO
  iintro HB
  iapply (wp_hops (outOf own) own K c 14 1 _ (by omega) (by omega)) $$ [Ht HB]
  · isplitr; · iexact HI
    isplitr; · iexact Hlev
    isplitl [Ht]; · iexact Ht
    iexact HB
  unfold Ended
  iintro ⟨Ht, HR, HL, HO⟩
  have hR : Idle (outOf own) true c 16 ⊢ _ := idle_end (outOf own) true c
  have hL : Idle (outOf own) false c 15 ⊢ _ := idle_end (outOf own) false c
  ihave HR := hR $$ HR
  icases HR with ⟨HPR, HR⟩
  ihave HL := hL $$ HL
  icases HL with ⟨HPL, HL⟩
  rw [show (pure (PUnit.unit) : Body F Unit) = .ret () from rfl, wp_ret]
  imod (close_at (outOf own) own K (bar_mem c) (later_bar (outOf own) own c)) $$ [HaB] with HvB
  · isplitr; · iexact HI
    iexact HaB
  imod (close_at (outOf own) own K (cpy_mem c) (later_cpy (outOf own) own c)) $$ [HaC] with HvC
  · isplitr; · iexact HI
    iexact HaC
  imod (close_stream (outOf own) own K true c) $$ [HPR] with HvR
  · isplitr; · iexact HI
    iexact HPR
  imod (close_stream (outOf own) own K false c) $$ [HPL] with HvL
  · isplitr; · iexact HI
    iexact HPL
  imodintro
  iapply Hk
  unfold bodyPost
  isplitl [HvB]; · iexact HvB
  isplitl [HvC HvR HvL]
  · iapply (own_zero (F := F) c)
    isplitl [HvC]; · iexact HvC
    isplitl [HvR]; · iexact HvR
    iexact HvL
  isplitl [Ht]; · iexact Ht
  isplitl [Hl]; · iexact Hl
  isplitl [Hr]; · iexact Hr
  isplitl [Hc]; · iexists _; iexact Hc
  isplitl [HR HL]
  · iapply (all_in (outOf own) c)
    isplitl [HR]; · iexact HR
    iexact HL
  iexact HO

end Cert.KernelIdeal.RingProof
-- ==== Proof.Host.lean ====
module

public import proofs.«01_k».proof.Proof.Table
public import proofs.«01_k».proof.Proof.Gen.KernelIdeal.Regions
public import Idealize.ShloMosaic.Lib.StableHlo.RunRead
public import Idealize.ShloMosaic.PureOps.BitExact

/-! # The table the host operations hand to the kernel

    Every device finds its place in the ring, then lists the devices its two streams meet. The words do not depend on the
    number format `F`, so the closed forms are computed once, at `Bits`. -/

@[expose] public section

set_option maxRecDepth 16384

noncomputable section

namespace Cert.KernelIdeal.RingProof

open Cert.KernelIdeal.Gen
open Idealize.ShloMosaic Idealize.ShloMosaic.TcCoe Idealize.SL Idealize.SL.RA Idealize.SL.BI Idealize.SL.Sem
open Idealize.ShloMosaic.StableHlo

variable {F : FTy → Type} [FloatOps F]

/-- Some memory; the words of the table do not read it. -/
def anyMem : (ℓ : Loc nD τ sig) → Buf (Elt Bits) ℓ := fun ℓ => Classical.ofNonempty

/-- A device's place in the ring, as the host operations find it. -/
theorem v7_bits : ∀ c : Dev nD, V2 (F := Bits) anyMem c main_v7 = fun _ => BitVec.ofNat 32 (pos c) := by
  intro c
  unfold V2
  after_reads_simp
  refine funext fun j => ?_
  have hj : j = fun a => a.elim0 := funext fun a => a.elim0
  rw [hj]
  revert c
  decide +kernel
theorem v7_eq (m : (ℓ : Loc nD τ sig) → Buf (Elt F) ℓ) (c : Dev nD) : V2 m c main_v7 = fun _ => BitVec.ofNat 32 (pos c) := by
  refine Eq.trans ?_ (v7_bits c)
  unfold V2
  after_reads_simp
/-- The ring's order. -/
theorem main_c_eq (m : (ℓ : Loc nD τ sig) → Buf (Elt F) ℓ) (c : Dev nD) :
    V2 m c main_c = (fun i => lit0 (S32.rowMajor i) : (⟨S32, .i32⟩ : BufTy).Contents (Elt F)) := by
  unfold V2
  after_reads_simp
  rfl

/-- What the buffers hold just before the table is put together, from the buffers `W` that the place is in. -/
abbrev afterPlace (W : Valuation τ sig (Elt F)) : Valuation τ sig (Elt F) :=
  upto hostOps0_10 (after hostOps0_9 (after hostOps0_8 (after hostOps0_7 (after hostOps0_6 (after hostOps0_5
    (after hostOps0_4 (after hostOps0_3 (after hostOps0_2 W)))))))) 11

section
variable (W : Valuation τ sig (Elt Bits)) (c : Dev nD) (h7 : W main_v7 = fun _ => BitVec.ofNat 32 (pos c))
    (hc : W main_c = fun i => lit0 (S32.rowMajor i))
include h7 hc

/-- The right neighbour. -/
theorem v46_bits : afterPlace W main_v46 = fun _ => wd (nxt true c) := by
  after_reads_simp [unaryIndexed_result_read, indexContents_cons, indexContents_empty, h7, hc]
  clear h7 hc
  funext i
  revert c i
  decide +kernel
/-- The left neighbour. -/
theorem v47_bits : afterPlace W main_v47 = fun _ => wd (nxt false c) := by
  after_reads_simp [unaryIndexed_result_read, indexContents_cons, indexContents_empty, h7, hc]
  clear h7 hc
  funext i
  revert c i
  decide +kernel
/-- The blocks that come in on the right stream. -/
theorem v33_bits : afterPlace W main_v33 = fun i => wd (src true c ((i 0).val + 1)) := by
  after_reads_simp [unaryIndexed_result_read, indexContents_cons, indexContents_empty, h7, hc]
  clear h7 hc
  funext i
  revert c i
  decide +kernel
/-- The blocks that come in on the left stream. -/
theorem v45_bits : afterPlace W main_v45 = fun i => wd (src false c ((i 0).val + 1)) := by
  after_reads_simp [unaryIndexed_result_read, indexContents_cons, indexContents_empty, h7, hc]
  clear h7 hc
  funext i
  revert c i
  decide +kernel
end

/-- The four lists put together. -/
theorem tab_cat : ∀ (c : Dev nD) (i : S33.Idx), concatenate S33 0
      [⟨S1, ((fun _ => wd (nxt true c)) : (⟨S1, .i32⟩ : BufTy).Contents (Elt Bits))⟩,
        ⟨S1, ((fun _ => wd (nxt false c)) : (⟨S1, .i32⟩ : BufTy).Contents (Elt Bits))⟩,
        ⟨S16, ((fun i => wd (src true c ((i 0).val + 1))) : (⟨S16, .i32⟩ : BufTy).Contents (Elt Bits))⟩,
        ⟨S15, ((fun i => wd (src false c ((i 0).val + 1))) : (⟨S15, .i32⟩ : BufTy).Contents (Elt Bits))⟩]
      concatenates_S1_S1_S16_S15_S33_d0 i = wd (entry c (i 0).val) := by
  decide +kernel

/-- Equal lists put together are equal. -/
theorem cat_congr {x x' y y' : (⟨S1, .i32⟩ : BufTy).Contents (Elt F)} {z z' : (⟨S16, .i32⟩ : BufTy).Contents (Elt F)}
    {w w' : (⟨S15, .i32⟩ : BufTy).Contents (Elt F)} (hx : x = x') (hy : y = y') (hz : z = z') (hw : w = w') :
    concatenate S33 0 [⟨S1, x⟩, ⟨S1, y⟩, ⟨S16, z⟩, ⟨S15, w⟩] concatenates_S1_S1_S16_S15_S33_d0
      = concatenate S33 0 [⟨S1, x'⟩, ⟨S1, y'⟩, ⟨S16, z'⟩, ⟨S15, w'⟩] concatenates_S1_S1_S16_S15_S33_d0 := by
  subst hx hy hz hw; rfl

/-- The table as the four lists put together. -/
theorem v48_cat (m : (ℓ : Loc nD τ sig) → Buf (Elt F) ℓ) (c : Dev nD) : V11 m c main_v48 =
    (concatenate S33 0 [⟨S1, afterPlace (V2 m c) main_v46⟩, ⟨S1, afterPlace (V2 m c) main_v47⟩,
      ⟨S16, afterPlace (V2 m c) main_v33⟩, ⟨S15, afterPlace (V2 m c) main_v45⟩] concatenates_S1_S1_S16_S15_S33_d0
      : (⟨S33, .i32⟩ : BufTy).Contents (Elt F)) := by
  unfold V11 V10 V9 V8 V7 V6 V5 V4 V3
  generalize V2 (F := F) m c = W
  after_reads_simp
  rfl

set_option maxHeartbeats 2000000 in
/-- The lists do not depend on the number format. -/
theorem lists_eq (W : Valuation τ sig (Elt F)) (W' : Valuation τ sig (Elt Bits)) (p : BitVec 32)
    (h7 : W main_v7 = fun _ => p) (hc : W main_c = (fun i => lit0 (S32.rowMajor i) : (⟨S32, .i32⟩ : BufTy).Contents (Elt F)))
    (h7' : W' main_v7 = fun _ => p) (hc' : W' main_c = (fun i => lit0 (S32.rowMajor i) : (⟨S32, .i32⟩ : BufTy).Contents (Elt Bits))) :
    (afterPlace W main_v46 = afterPlace W' main_v46 ∧ afterPlace W main_v47 = afterPlace W' main_v47)
      ∧ afterPlace W main_v33 = afterPlace W' main_v33 ∧ afterPlace W main_v45 = afterPlace W' main_v45 := by
  refine ⟨⟨?_, ?_⟩, ?_, ?_⟩ <;>
    (after_reads_simp [unaryIndexed_result_read, indexContents_cons, indexContents_empty, h7, hc, h7', hc']; try rfl)

/-- **The table.** -/
theorem V11_tab (m : (ℓ : Loc nD τ sig) → Buf (Elt F) ℓ) (c : Dev nD) : V11 m c main_v48 = tab F c := by
  obtain ⟨⟨e1, e2⟩, e3, e4⟩ := lists_eq (V2 m c) (V2 (F := Bits) anyMem c) _ (v7_eq m c) (main_c_eq m c)
    (v7_eq anyMem c) (main_c_eq anyMem c)
  refine (v48_cat m c).trans ?_
  refine (cat_congr (e1.trans (v46_bits _ c (v7_eq anyMem c) (main_c_eq anyMem c)))
    (e2.trans (v47_bits _ c (v7_eq anyMem c) (main_c_eq anyMem c)))
    (e3.trans (v33_bits _ c (v7_eq anyMem c) (main_c_eq anyMem c)))
    (e4.trans (v45_bits _ c (v7_eq anyMem c) (main_c_eq anyMem c)))).trans ?_
  exact funext fun i => tab_cat c i

/-- The arguments come to the kernel unchanged. -/
theorem V11_lhs (m : (ℓ : Loc nD τ sig) → Buf (Elt F) ℓ) (c : Dev nD) : V11 m c main_arg0 = m (c, Proc.devRef .tc main_arg0) := by
  unfold V11 V10 V9 V8 V7 V6 V5 V4 V3 V2 V1 V0
  after_reads_simp
theorem V11_rhs (m : (ℓ : Loc nD τ sig) → Buf (Elt F) ℓ) (c : Dev nD) : V11 m c main_arg1 = m (c, Proc.devRef .tc main_arg1) := by
  unfold V11 V10 V9 V8 V7 V6 V5 V4 V3 V2 V1 V0
  after_reads_simp

end Cert.KernelIdeal.RingProof
-- ==== Proof.Region.lean ====
module

public import proofs.«01_k».proof.Proof.Body
public import proofs.«01_k».proof.Proof.Host
public import proofs.«01_k».proof.Proof.Gen.KernelIdeal.Points

/-! # The kernel's region of the program

The data of the region (its invariant before and after its one point, what its devices owe), the body's triple over the
staged windows, and the region's record: entered with the ghost state that the launch deals, left with the result whole. -/

@[expose] public section

set_option maxRecDepth 16384

noncomputable section

namespace Cert.KernelIdeal.RingProof

open Cert.KernelIdeal.Gen
open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ)

/-! ## Contents -/

/-- A device's shards. -/
abbrev lhs (c : Dev nD) : Vec F S1536x768 .f32 := m (c, Proc.devRef .tc main_arg0)
abbrev rhs (c : Dev nD) : Vec F S768x1536 .f32 := m (c, Proc.devRef .tc main_arg1)
/-- The chunk a device computes: the product of its shards. -/
def own (c : Dev nD) : Chk F := k0_pay1 (lhs m c) (rhs m c)

/-- What the kernel leaves in the result's buffer. -/
def outs : Outs (F := F) := fun _ r c =>
  Function.update (β := fun r : Ref sig .tc => Buf (Elt F) ((c : Thread nD τ).loc r)) (fun r => m ((c : Thread nD τ).loc r))
    main_v49 (outOf (own m)) r

theorem V12_out (c : Dev nD) : V12 m (outs m) c main_v49 = outOf (own m) :=
  (Function.update_self (Proc.devRef .tc main_v49 : DevRef τ sig) _ _).trans (Function.update_self main_v49 _ _)

/-- The staged block of each window is its whole array. -/
theorem blk_0 (f : (main_v48 : Ref sig .tc).ty.Contents (Elt F)) : (win0_0.blk (0 : Fin 1)).view.read (Elt F) f = f :=
  Memref.read_access_unit_zero (Elt F) main_v48 (by funext a; fin_cases a; rfl) _ f
theorem blk_1 (f : (main_arg0 : Ref sig .tc).ty.Contents (Elt F)) : (win0_1.blk (0 : Fin 1)).view.read (Elt F) f = f :=
  Memref.read_access_unit_zero (Elt F) main_arg0 (by funext a; fin_cases a <;> rfl) _ f
theorem blk_2 (f : (main_arg1 : Ref sig .tc).ty.Contents (Elt F)) : (win0_2.blk (0 : Fin 1)).view.read (Elt F) f = f :=
  Memref.read_access_unit_zero (Elt F) main_arg1 (by funext a; fin_cases a <;> rfl) _ f

/-! ## The data of the region -/

/-- The scratch chunk, at contents not chosen. -/
abbrev scratch (c : Dev nD) : sProp 𝕄 := iprop(∃ f : Buf (Elt F) ((c : Thread nD τ).loc cc0_scratch0), ((c : Thread nD τ).loc cc0_scratch0) ↦{fullShare} f)

theorem scratch_chk (c : Dev nD) (f : Chk F) : (((c : Thread nD τ).loc cc0_scratch0) ↦{fullShare} f : sProp 𝕄) = chk c f :=
  congrArg (fun S => (((c : Thread nD τ).loc cc0_scratch0) ↦[S]{fullShare} f : sProp 𝕄)) (View.set_whole cc0_scratch0).symm

/-- What a device's ghost state is when its cells are open. -/
def Xk (c : Dev nD) : sProp 𝕄 := iprop(∃ K, invs (outOf (own m)) (own m) K ∗ Opened c ∗ Toks c ∗ levAts L lv)

/-- Before the body: the open cells, the scratch buffer and the result's, both at any contents. -/
def before (c : Dev nD) : sProp 𝕄 := iprop(Xk m c ∗ scratch c ∗ outPts c (V11 m c main_v49) ∗ ∃ r, prngReg c r)
/-- After it: every counter at zero, the result whole. -/
def left (c : Dev nD) : sProp 𝕄 :=
  iprop(semVal (bar c) 0 ∗ Pipeline.ownSems0 osem c ∗ scratch c ∗ outPts c (outOf (own m)) ∗ ∃ r, prngReg c r)

/-- The region's data on a device. -/
def dat (c : Dev nD) : Dat τ (Elt F) ℕ ℕ UU ℕ cfg0 c where
  A w := match w with
    | 0 => V11 m c main_v48
    | 1 => V11 m c main_arg0
    | 2 => V11 m c main_arg1
  after w t := match w with
    | 0 => tab F c
    | 1 => lhs m c
    | 2 => rhs m c
  Φ t := if t.val = 0 then before m c else left m c
  q _ := fullShare
  owed t := if t.val = 0 then O₀ c else 0

def dats : (p : Fin 1) → (c : Dev nD) → Dat τ (Elt F) ℕ ℕ UU ℕ (cfgs p) c
  | 0 => dat m

theorem owed_eq (c : Dev nD) (t : Fin (cfg0.N + 1)) : (dat (F := F) m c).owed t = if t.val = 0 then O₀ c else 0 := rfl
theorem phi_eq (c : Dev nD) (t : Fin (cfg0.N + 1)) : (dat m c).Φ t = if t.val = 0 then before m c else left m c := rfl
theorem last_ne : ¬ (Fin.last cfg0.N).val = 0 := by rw [Fin.val_last, show cfg0.N = 1 from N_0]; decide
theorem end_ne : ¬ (t0_0.succ : Fin (cfg0.N + 1)).val = 0 := by decide
theorem owed_first (c : Dev nD) : (dat (F := F) m c).owed 0 = O₀ c := (owed_eq m c 0).trans (if_pos rfl)
theorem owed_start (c : Dev nD) : (dat (F := F) m c).owed t0_0.castSucc = O₀ c := (owed_eq m c t0_0.castSucc).trans (if_pos rfl)
theorem owed_last (c : Dev nD) : (dat (F := F) m c).owed (Fin.last _) = 0 := (owed_eq m c (Fin.last _)).trans (if_neg last_ne)
theorem owed_end (c : Dev nD) : (dat (F := F) m c).owed t0_0.succ = 0 := (owed_eq m c t0_0.succ).trans (if_neg end_ne)
theorem phi_first (c : Dev nD) : (dat m c).Φ 0 = before m c := (phi_eq m c 0).trans (if_pos rfl)
theorem phi_last (c : Dev nD) : (dat m c).Φ (Fin.last _) = left m c := (phi_eq m c (Fin.last _)).trans (if_neg last_ne)
theorem phi_start (c : Dev nD) : (dat m c).Φ t0_0.castSucc = before m c := (phi_eq m c t0_0.castSucc).trans (if_pos rfl)
theorem phi_end (c : Dev nD) : (dat m c).Φ t0_0.succ = left m c := (phi_eq m c t0_0.succ).trans (if_neg end_ne)
theorem share_eq (c : Dev nD) (w : Fin cfg0.W) : (dat m c).share w = fullShare := by unfold Dat.share; split <;> rfl

/-- The debt of a point, out of the region's form and into it. -/
theorem owesAt_out (c : Dev nD) (t : Fin (cfg0.N + 1)) (O : CellTallies nD τ sig ℕ) (h : (dat m c).owed t = O) :
    ((dat m c).owesAt 0 t : sProp 𝕄) ⊢ owesE c O := by
  unfold Dat.owesAt Pipeline.owesWithin owesE; rw [h]
  iintro ⟨%W, -, HO⟩; iexists W; iexact HO
theorem owesAt_in (c : Dev nD) (t : Fin (cfg0.N + 1)) (O : CellTallies nD τ sig ℕ) (h : (dat m c).owed t = O) :
    owesE c O ⊢ ((dat m c).owesAt 0 t : sProp 𝕄) := by
  unfold Dat.owesAt Pipeline.owesWithin owesE Dat.bound; rw [h]
  iintro ⟨%W, HO⟩; iexists W
  isplitr; · ipureintro; exact fun _ _ => Or.inl trivial
  iexact HO

/-! ## The body over the staged windows -/

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_at (c : Dev nD) (b : Ref sig .tc) (X Y : b.ty.Contents (Elt F)) (h : X = Y) :
    stg c b X ⊢ (((c : Thread nD τ).loc b) ↦{fullShare} Y : sProp 𝕄) := by
  subst h
  iintro ⟨%f, %hf, H⟩
  subst hf
  iexact H
theorem stg_of (c : Dev nD) (b : Ref sig .tc) (X : b.ty.Contents (Elt F)) :
    (((c : Thread nD τ).loc b) ↦{fullShare} X : sProp 𝕄) ⊢ stg c b X := by
  iintro H
  iexists X
  isplitr; · ipureintro; rfl
  iexact H

theorem before_0 (c : Dev nD) (d) : (dat m c).before (0 : Fin 3) t0_0 d = tab F c := by
  unfold Dat.before; rw [if_pos (fetch0_0 t0_0)]
  exact (blk_0 _).trans (V11_tab m c)
theorem before_1 (c : Dev nD) (d) : (dat m c).before (1 : Fin 3) t0_0 d = lhs m c := by
  unfold Dat.before; rw [if_pos (fetch0_1 t0_0)]
  exact (blk_1 _).trans (V11_lhs m c)
theorem before_2 (c : Dev nD) (d) : (dat m c).before (2 : Fin 3) t0_0 d = rhs m c := by
  unfold Dat.before; rw [if_pos (fetch0_2 t0_0)]
  exact (blk_2 _).trans (V11_rhs m c)

/-- What the point's triple starts from and ends at. -/
def pointPre (c : Dev nD) : sProp 𝕄 :=
  iprop((dat m c).Φ t0_0.castSucc ∗ (dat m c).owesAt 0 t0_0.castSucc
    ∗ (∃ d, stg c cc0_stg0_0 ((dat m c).before (0 : Fin 3) t0_0 d))
    ∗ (∃ d, stg c cc0_stg1_0 ((dat m c).before (1 : Fin 3) t0_0 d))
    ∗ (∃ d, stg c cc0_stg2_0 ((dat m c).before (2 : Fin 3) t0_0 d)))
def pointPost (c : Dev nD) : sProp 𝕄 :=
  iprop((dat m c).Φ t0_0.succ ∗ (dat m c).owesAt 0 t0_0.succ
    ∗ stg c cc0_stg0_0 (tab F c) ∗ stg c cc0_stg1_0 (lhs m c) ∗ stg c cc0_stg2_0 (rhs m c))

theorem wp_point (c : Dev nD) (h4 : chkM.IsWhole) : pointPre m c
    ⊢ wp frame (wpE (defs₀ (F := F)) 𝒱₀ c none) Set.univ
        (loopBody tabM lhsM rhsM outM chkM h4 cc0_scratch1 (sndA true) (rcvA true) (sndA false) (rcvA false)) (fun _ => pointPost m c) := by
  unfold pointPre
  rw [phi_start]
  unfold before Xk
  iintro ⟨⟨⟨%K, #HI, Hop, Htk, #Hlev⟩, ⟨%f, Hs⟩, Ho, Hp⟩, HO, ⟨%d0, H0⟩, ⟨%d1, H1⟩, ⟨%d2, H2⟩⟩
  ihave H0 := (stg_at c cc0_stg0_0 _ _ (before_0 m c d0)) $$ H0
  ihave H1 := (stg_at c cc0_stg1_0 _ _ (before_1 m c d1)) $$ H1
  ihave H2 := (stg_at c cc0_stg2_0 _ _ (before_2 m c d2)) $$ H2
  ihave HO := (owesAt_out m c _ _ (owed_start m c)) $$ HO
  iapply (wp_body (own m) K c (lhs m c) (rhs m c) h4 rfl (fun _ => pointPost m c))
  isplitl [Hop Htk Hs Ho HO H0 H1 H2]
  · unfold bodyPre
    isplitr; · iexact HI
    isplitr; · iexact Hlev
    isplitl [Hop]; · iexact Hop
    isplitl [Htk]; · iexact Htk
    isplitl [H0]; · iexact H0
    isplitl [H1]; · iexact H1
    isplitl [H2]; · iexact H2
    isplitl [Hs]; · iexists f; iapply (Entails.of_eq (scratch_chk c f)); iexact Hs
    isplitl [Ho]; · iexists _; iexact Ho
    iexact HO
  unfold bodyPost pointPost
  rw [phi_end]
  unfold left
  iintro ⟨Hb, Hos, H0, H1, H2, ⟨%g, Hs⟩, Ho, HO⟩
  isplitl [Hb Hos Hs Ho Hp]
  · isplitl [Hb]; · iexact Hb
    isplitl [Hos]; · iexact Hos
    isplitl [Hs]; · iexists g; iapply (Entails.of_eq (scratch_chk c g).symm); iexact Hs
    isplitl [Ho]; · iexact Ho
    iexact Hp
  isplitl [HO]; · iapply (owesAt_in m c _ _ (owed_end m c)); iexact HO
  isplitl [H0]; · iapply (stg_of c cc0_stg0_0 (tab F c)); iexact H0
  isplitl [H1]; · iapply (stg_of c cc0_stg1_0 (lhs m c)); iexact H1
  iapply (stg_of c cc0_stg2_0 (rhs m c)); iexact H2

theorem body_obligation (c : Dev nD) : BodyObligation (dat (F := F) m c) (defs₀ (F := F)) 𝒱₀ 0 Set.univ := fun t => by
  rw [fin_N0 t]
  rw [bigSep_W0, bigSep_W0]
  simp only [owns_whole_eq]
  show pointPre m c ⊢ wp frame (wpE (defs₀ (F := F)) 𝒱₀ c none) Set.univ
    (loopBody tabM lhsM rhsM outM chkM (Memref.isWhole_whole _) cc0_scratch1 (sndA true) (rcvA true) (sndA false) (rcvA false)) (fun _ => pointPost m c)
  exact wp_point m c _

end Cert.KernelIdeal.RingProof
-- ==== Proof.Record.lean ====
module

public import proofs.«01_k».proof.Proof.Region
public import Idealize.ShloMosaic.Lib.Pipeline.RegionTalk

/-! # The region's record: what a device enters the kernel with and what it leaves with -/

@[expose] public section

set_option maxRecDepth 16384

noncomputable section

namespace Cert.KernelIdeal.RingProof

open Cert.KernelIdeal.Gen
open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ)

/-- What the launch deals a device: the invariants of all cells, the rights to open its own, and its tokens. -/
def Tk (c : Dev nD) : sProp 𝕄 :=
  iprop(∃ K, invs (outOf (own m)) (own m) K
    ∗ (bigSep Finset.univ fun k : Fin 9 => openTok ER ((c : Thread nD τ), osem k)) ∗ Toks c)

/-- With the own counters at zero the own cells open. -/
theorem hopen (c : Dev nD) : iprop(Tk m c ∗ Pipeline.ownSems0 osem c ∗ levAts L lv) ⊢ (|={Set.univ}=> Xk m c : sProp 𝕄) := by
  unfold Tk Xk
  iintro ⟨⟨%K, #HI, Hot, Htk⟩, Hs, #Hlev⟩
  have step : iprop(invs (outOf (own m)) (own m) K
      ∗ ((bigSep Finset.univ fun k : Fin 9 => openTok ER ((c : Thread nD τ), osem k)) ∗ Pipeline.ownSems0 osem c))
      ⊢ (|={Set.univ}=> Opened c : sProp 𝕄) := by
    refine BI.Entails.trans ?_ (bigSep_fupd (Finset.univ : Finset (Fin 9))
      (fun k => iprop(atPos ER ((c : Thread nD τ), osem k) 0 ∅ 0 ∗ reached ER ((c : Thread nD τ), osem k) 0)))
    unfold Pipeline.ownSems0
    rw [← bigSep_sep']
    refine bigSep_with_persistent fun k _ => ?_
    iintro ⟨#HI, Hot, Hs⟩
    iapply (Rounds.cell_open ER (sched (outOf (own m)) (own m)) (g := ((c : Thread nD τ), osem k)) (κ := K ((c : Thread nD τ), osem k)) (Set.mem_univ _))
    isplitr; · iapply (inv_at (outOf (own m)) (own m) K (osem_mem c k rfl)); iexact HI
    isplitl [Hot]; · iexact Hot
    iexact Hs
  imod step $$ [Hot Hs] with Hop
  · isplitr; · iexact HI
    isplitl [Hot]; · iexact Hot
    iexact Hs
  imodintro
  iexists K
  isplitr; · iexact HI
  isplitl [Hop]; · iexact Hop
  isplitl [Htk]; · iexact Htk
  iexact Hlev

/-- The result's buffer among the unscoped ones. -/
abbrev outRef : Finset (DevRef τ sig) := {Proc.devRef .tc main_v49}
/-- The unscoped buffers that no window stages. -/
abbrev restRefs : Finset (DevRef τ sig) := Pipeline.ucRefs τ sig \ Pipeline.arrRefs (τ := τ) spec0

theorem out_rest : outRef ⊆ restRefs := by decide

theorem arr_sub : Pipeline.arrRefs (τ := τ) spec0 ⊆ Pipeline.ucRefs τ sig := by decide

theorem held_out (c : Dev nD) (W : Valuation τ sig (Elt F)) : (StableHlo.held (c : Thread nD τ) outRef W : sProp 𝕄) = outPts c (W main_v49) := by
  unfold StableHlo.held
  exact BI.bigSep_singleton

theorem hin (c : Dev nD) : iprop(Pipeline.scopedRest (Pipeline.pin (pcfgs (F := F)) adm 0).spec c ∗ (∃ r, prngReg c r)
      ∗ StableHlo.held (c : Thread nD τ) outRef (V11 m c) ∗ Xk m c) ⊢ (dats m 0 c).Φ 0 := by
  have e : (Pipeline.scopedRest (Pipeline.pin (pcfgs (F := F)) adm 0).spec c : sProp 𝕄) = scratch c := scopedRest0_eq c
  rw [held_out, e, show (dats m 0 c).Φ 0 = before m c from phi_first m c]
  unfold before
  iintro ⟨Hs, Hp, Ho, HX⟩
  isplitl [HX]; · iexact HX
  isplitl [Hs]; · iexact Hs
  isplitl [Ho]; · iexact Ho
  iexact Hp

theorem hout (c : Dev nD) : (dats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c : Thread nD τ) outRef (V12 m (outs m) c) ∗ Pipeline.ownSems0 osem c ∗ semVal (bar c) 0) := by
  have e : (Pipeline.scopedRest (Pipeline.pin (pcfgs (F := F)) adm 0).spec c : sProp 𝕄) = scratch c := scopedRest0_eq c
  rw [held_out, e, V12_out, show (dats m 0 c).Φ (Fin.last _) = left m c from phi_last m c]
  unfold left
  iintro ⟨Hb, Hos, Hs, Ho, Hp⟩
  isplitl [Hs]; · iexact Hs
  isplitl [Hp]; · iexact Hp
  isplitl [Ho]; · iexact Ho
  isplitl [Hos]; · iexact Hos
  iexact Hb

theorem cut (c : Dev nD) (t : Fin (cfg0.N + 1)) (g : GSem nD τ sig) (i : ℕ) (h : 0 < (dat (F := F) m c).owed t g i) :
    i ∈ L g ∧ 0 < lv g i := by
  rw [owed_eq] at h
  split at h
  · exact owed_cut c g i h
  · exact absurd h (Nat.lt_irrefl 0)

theorem ownSemFacts : Pipeline.OwnSemFacts (pcfgs (F := F) 0).spec osem := (by decide : Pipeline.OwnSemFacts spec0 osem)

theorem lv_stage (c : Dev nD) : ∀ (w : Fin 3) (s : Fin (cfg0.win w).nbuf), lv ((c : Thread nD τ), .dma ((cfg0.win w).sem s)) 0 = 0 := by
  intro w s
  fin_cases w <;> rfl

set_option backward.isDefEq.respectTransparency.types false in
/-- **The record of the region.** -/
def reg : Pipeline.RegionSeg (pcfgs (F := F)) adm (dats m) 0 defs₀ 𝒱₀ L lv 0 :=
  Pipeline.RegionSeg.ofTalk (pcfgs (F := F)) adm (dats m) 0 defs₀ 𝒱₀ L lv 0 osem ownSemFacts
    outRef restRefs out_rest (launch0.toP (Val := Elt F)) rfl (fun c => (body_obligation m c).loose)
    (fun _ => 0) O₀ (fun c => (owed_first m c).trans (zero_add _).symm) (owed_last m) (fun _ => rfl) (share_eq m)
    (V11 m) (V12 m (outs m)) (fun c b hb => Function.update_of_ne (fun h => (Finset.mem_sdiff.mp hb).2 (Finset.mem_singleton.mpr h)) _ _)
    (Tk m) (fun c => semVal (bar c) 0) (Xk m) (fun c => semVal (bar c) 0) (hopen m) (hin m) (hout m)
    (fun c => by iintro H; imodintro; iexact H)
    (fun _ => 0)
    ⟨fun c w s => mem_L c _ (by decide), fun c w s => le_of_eq (lv_stage c w s), fun c t g i h => cut m c t g i h⟩
    (fun _ => iprop(emp))
    (fun c w => by fin_cases w <;> rfl) (fun c w => by
      refine (Dat.arrAt_in _ w (by fin_cases w <;> rfl) _).trans ?_
      fin_cases w
      · exact (V12_of m (outs m) c main_v48 (by decide)).symm
      · exact (V12_of m (outs m) c main_arg0 (by decide)).symm
      · exact (V12_of m (outs m) c main_arg1 (by decide)).symm)

/-- The rest of a device's thread state up to the region, and after it. -/
def rest (i : Fin 2) (c : Dev nD) : sProp 𝕄 := match i with
  | 0 => iprop(Tk m c ∗ (∃ r, prngReg c r) ∗ owesE c (O₀ c))
  | 1 => iprop(semVal (bar c) 0 ∗ owesE c 0)

theorem reg_pre (c : Dev nD) : iprop(StableHlo.held (c : Thread nD τ) (Pipeline.ucRefs τ sig) (V11 m c) ∗ rest m 0 c) ⊢ (reg m).pre c := by
  show _ ⊢ iprop(StableHlo.held (c : Thread nD τ) (Pipeline.arrRefs (τ := τ) spec0) (V11 m c) ∗ (∃ r, prngReg c r)
    ∗ (StableHlo.held (c : Thread nD τ) restRefs (V11 m c) ∗ emp) ∗ Tk m c ∗ ∃ Wd, owes (c : Thread nD τ) (0 + O₀ c) Wd)
  rw [StableHlo.held_sub_split (c : Thread nD τ) arr_sub, zero_add]
  unfold rest owesE
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c
    ⊢ iprop(StableHlo.held (c : Thread nD τ) (Pipeline.ucRefs τ sig) (V12 m (outs m) c) ∗ rest m 1 c) := by
  show iprop(StableHlo.held (c : Thread nD τ) (Pipeline.arrRefs (τ := τ) spec0) (V12 m (outs m) c) ∗ (∃ r, prngReg c r)
    ∗ (StableHlo.held (c : Thread nD τ) restRefs (V12 m (outs m) c) ∗ emp) ∗ semVal (bar c) 0
    ∗ ∃ Wd, owes (c : Thread nD τ) (0 : CellTallies nD τ sig ℕ) Wd) ⊢ _
  rw [StableHlo.held_sub_split (c : Thread nD τ) arr_sub (V12 m (outs m) c)]
  unfold rest owesE
  iintro ⟨Ha, -, ⟨Hr, -⟩, Hb, HO⟩
  isplitl [Ha Hr]
  · isplitl [Ha]; · iexact Ha
    iexact Hr
  isplitl [Hb]; · iexact Hb
  iexact HO

end Cert.KernelIdeal.RingProof
-- ==== Proof.Launch.lean ====
module

public import proofs.«01_k».proof.Proof.Record

/-! # The launch: every cell's invariant, and what each device is dealt

The tokens of the barrier and of the landings go to the device that pays them, the neighbour on the other side. -/

@[expose] public section

set_option maxRecDepth 16384

noncomputable section

namespace Cert.KernelIdeal.RingProof

open Cert.KernelIdeal.Gen
open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

/-! ## The tokens -/

theorem disjoint_cells : Disjoint (barCells : Finset (GSem nD τ sig)) scCells := by
  rw [Finset.disjoint_left]
  intro g h₁ h₂
  obtain ⟨c, -, rfl⟩ := Finset.mem_map.mp h₁
  obtain ⟨ck, -, h⟩ := Finset.mem_map.mp h₂
  exact osem_ne_bar ck.2 (congrArg Prod.snd h)

/-- A semaphore, a round and a duty. -/
abbrev Key : Type := SemLoc sig × ℕ × Bool

def sndKey (s : Bool) (k : ℕ) : Key := (osem (sndIx s (k % 2)), k / 2, false)
def rcvKey (s : Bool) (k : ℕ) : Key := (osem (rcvIx s (k % 2)), k / 2, false)
def sndKeys (s : Bool) : Finset Key := (Finset.range (len s)).image (sndKey s)
def rcvKeys (s : Bool) : Finset Key := (Finset.range (len s)).image (rcvKey s)
/-- The barrier's two duties and the copy's one. -/
def fewKeys : Finset Key := {(.reg barSem, 0, true), (.reg barSem, 0, false), (osem 0, 0, false)}
/-- The duties of a device's cells. -/
def keys : Finset Key := fewKeys ∪ (sndKeys true ∪ (rcvKeys true ∪ (sndKeys false ∪ rcvKeys false)))

theorem snd_inj (s : Bool) : Set.InjOn (sndKey s) (Finset.range (len s)) := by
  have h : ∀ s : Bool, ∀ a ∈ Finset.range (len s), ∀ b ∈ Finset.range (len s), sndKey s a = sndKey s b → a = b := by decide +kernel
  exact fun a ha b hb e => h s a ha b hb e
theorem rcv_inj (s : Bool) : Set.InjOn (rcvKey s) (Finset.range (len s)) := by
  have h : ∀ s : Bool, ∀ a ∈ Finset.range (len s), ∀ b ∈ Finset.range (len s), rcvKey s a = rcvKey s b → a = b := by decide +kernel
  exact fun a ha b hb e => h s a ha b hb e
theorem keys1 : Disjoint fewKeys (sndKeys true ∪ (rcvKeys true ∪ (sndKeys false ∪ rcvKeys false))) := by decide +kernel
theorem keys2 : Disjoint (sndKeys true) (rcvKeys true ∪ (sndKeys false ∪ rcvKeys false)) := by decide +kernel
theorem keys3 : Disjoint (rcvKeys true) (sndKeys false ∪ rcvKeys false) := by decide +kernel
theorem keys4 : Disjoint (sndKeys false) (rcvKeys false) := by decide +kernel

/-- A duty of a device's cell, as a duty of the machine. -/
def dutyEmb : (Σ _ : Dev nD, Key) ↪ GSem nD τ sig × ℕ × Bool :=
  ⟨fun x => (((x.1 : Thread nD τ), x.2.1), x.2.2), fun x y h => by
    obtain ⟨a, b⟩ := x
    obtain ⟨a', b'⟩ := y
    obtain rfl : a = a' := congrArg (fun t : GSem nD τ sig × ℕ × Bool => t.1.1.1) h
    obtain rfl : b = b' := Prod.ext (congrArg (fun t : GSem nD τ sig × ℕ × Bool => t.1.2) h)
      (congrArg (fun t : GSem nD τ sig × ℕ × Bool => t.2) h)
    rfl⟩

/-- Every duty of every device. -/
def toks : Finset (GSem nD τ sig × ℕ × Bool) := ((Finset.univ : Finset (Dev nD)).sigma fun _ => keys).map dutyEmb

/-- The tokens of a stream's two families of cells on device `c`. -/
def sndToks (s : Bool) (c : Dev nD) : sProp 𝕄 := bigSep (Finset.range (len s)) fun k => dutyTok ER (snd s c k) (k / 2) false
def rcvToks (s : Bool) (c : Dev nD) : sProp 𝕄 := bigSep (Finset.range (len s)) fun k => dutyTok ER (rcv s c k) (k / 2) false

theorem toks_snd (s : Bool) (c : Dev nD) :
    bigSep (sndKeys s) (fun x => (dutyTok ER ((c : Thread nD τ), x.1) x.2.1 x.2.2 : sProp 𝕄)) = sndToks s c := by
  unfold sndKeys sndToks
  rw [bigSep_image_of_injOn (snd_inj s)]
  exact bigSep_congr fun k _ => by unfold sndKey snd; rw [snd_osem]
theorem toks_rcv (s : Bool) (c : Dev nD) :
    bigSep (rcvKeys s) (fun x => (dutyTok ER ((c : Thread nD τ), x.1) x.2.1 x.2.2 : sProp 𝕄)) = rcvToks s c := by
  unfold rcvKeys rcvToks
  rw [bigSep_image_of_injOn (rcv_inj s)]
  exact bigSep_congr fun k _ => by unfold rcvKey rcv; rw [rcv_osem]
theorem toks_few (c : Dev nD) :
    bigSep fewKeys (fun x => (dutyTok ER ((c : Thread nD τ), x.1) x.2.1 x.2.2 : sProp 𝕄))
      = iprop(dutyTok ER (bar c) 0 true ∗ dutyTok ER (bar c) 0 false ∗ dutyTok ER (cpy c) 0 false) := by
  unfold fewKeys
  rw [bigSep_insert (by decide +kernel), bigSep_insert (by decide +kernel), bigSep_singleton]
  rfl

/-- The tokens, device by device. -/
theorem toks_eq : bigSep toks (fun x => (dutyTok ER x.1 x.2.1 x.2.2 : sProp 𝕄)) = bigSep Finset.univ fun c : Dev nD =>
    iprop((dutyTok ER (bar c) 0 true ∗ dutyTok ER (bar c) 0 false ∗ dutyTok ER (cpy c) 0 false)
      ∗ sndToks true c ∗ rcvToks true c ∗ sndToks false c ∗ rcvToks false c) := by
  unfold toks
  rw [bigSep_map, Pipeline.bigSep_sigma]
  refine bigSep_congr fun c _ => ?_
  unfold keys
  show bigSep _ (fun x : Key => (dutyTok ER ((c : Thread nD τ), x.1) x.2.1 x.2.2 : sProp 𝕄)) = _
  rw [bigSep_union keys1, bigSep_union keys2, bigSep_union keys3, bigSep_union keys4, toks_few, toks_snd, toks_rcv, toks_snd, toks_rcv]
  rfl

/-- The tokens a device pays with: its own send cells', its neighbours' receive cells', its copy's, its neighbours'
    barrier's. -/
def paying (c : Dev nD) : sProp 𝕄 :=
  iprop((dutyTok ER (bar (nxt false c)) 0 true ∗ dutyTok ER (bar (nxt true c)) 0 false ∗ dutyTok ER (cpy c) 0 false)
    ∗ sndToks true c ∗ rcvToks true (nxt true c) ∗ sndToks false c ∗ rcvToks false (nxt false c))

/-- Each token handed to the device that pays it. -/
theorem toks_around : bigSep toks (fun x => (dutyTok ER x.1 x.2.1 x.2.2 : sProp 𝕄)) = bigSep Finset.univ fun c : Dev nD => paying c := by
  rw [toks_eq]
  unfold paying
  rw [bigSep_sep', bigSep_sep', bigSep_sep', bigSep_sep', bigSep_sep', bigSep_sep', bigSep_sep', bigSep_sep', bigSep_sep', bigSep_sep', bigSep_sep', bigSep_sep',
    bigSep_univ_equiv (step false) (fun c : Dev nD => (dutyTok ER (bar c) 0 true : sProp 𝕄)),
    bigSep_univ_equiv (step true) (fun c : Dev nD => (dutyTok ER (bar c) 0 false : sProp 𝕄)),
    bigSep_univ_equiv (step true) (fun c : Dev nD => (rcvToks true c : sProp 𝕄)),
    bigSep_univ_equiv (step false) (fun c : Dev nD => (rcvToks false c : sProp 𝕄))]
  rfl

/-! ## The credits -/

/-- A device's credits: two units of its barrier, and every landing of both streams. -/
def credits (c : Dev nD) : sProp 𝕄 :=
  iprop(cred (tallyAt (bar c) 0 2) ∗ (bigSep (Finset.range (len true)) fun k => cred (tallyAt (rcv true c k) k N))
    ∗ (bigSep (Finset.range (len false)) fun k => cred (tallyAt (rcv false c k) k N)))

/-- What the senders of a stream owe is the receivers' credit. -/
theorem cred_strm (s : Bool) (c : Dev nD) : (Pipeline.launchCred (fun d => owedFrom s d 0) c : sProp 𝕄)
    ⊢ bigSep (Finset.range (len s)) fun k => cred (tallyAt (rcv s c k) k N) := by
  unfold owedFrom
  rw [Pipeline.launchCred_sum, ← Finset.range_eq_Ico]
  exact bigSep_mono fun k _ => Pipeline.launchCred_tallyAt (.dma (semAt (rcvA s) k).sem) (nxt s) (nxt (!s)) (nxt_nxt' s) (nxt_nxt s) k N c
theorem cred_bar (s : Bool) (c : Dev nD) : (Pipeline.launchCred (fun d => tallyAt (bar (nxt s d)) 0 1) c : sProp 𝕄)
    ⊢ cred (tallyAt (bar c) 0 1) :=
  Pipeline.launchCred_tallyAt (.reg barSem) (nxt s) (nxt (!s)) (nxt_nxt' s) (nxt_nxt s) 0 1 c

theorem creds (c : Dev nD) : (Pipeline.launchCred O₀ c : sProp 𝕄) ⊢ credits c := by
  have e : (Pipeline.launchCred O₀ c : sProp 𝕄) = iprop(((Pipeline.launchCred (fun d => owedFrom true d 0) c
      ∗ Pipeline.launchCred (fun d => owedFrom false d 0) c)
      ∗ Pipeline.launchCred (fun d => tallyAt (bar (nxt true d)) 0 1) c) ∗ Pipeline.launchCred (fun d => tallyAt (bar (nxt false d)) 0 1) c) := by
    rw [← Pipeline.launchCred_add, ← Pipeline.launchCred_add, ← Pipeline.launchCred_add]; rfl
  rw [e]
  unfold credits
  iintro ⟨⟨⟨H1, H2⟩, H3⟩, H4⟩
  isplitl [H3 H4]
  · rw [show (tallyAt (bar c) 0 2 : CellTallies nD τ sig ℕ) = tallyAt (bar c) 0 1 + tallyAt (bar c) 0 1 from (tallyAt_add (bar c) 0 1 1).symm]
    iapply (cred_add _ _).2
    isplitl [H3]; · iapply (cred_bar true c); iexact H3
    iapply (cred_bar false c); iexact H4
  isplitl [H1]; · iapply (cred_strm true c); iexact H1
  iapply (cred_strm false c); iexact H2

/-! ## The ghost state dealt -/

/-- The launch element: the pipeline's, and the ring's. -/
def u₀ : UU :=
  (initOf (Pipeline.cells (Pipeline.pin (pcfgs (F := F)) adm) cellOf_inj) (Pipeline.launchToks (Pipeline.pin (pcfgs (F := F)) adm) cellOf_inj),
    launchOf barCells scCells toks)

/-- The ring's launch element, kept by the first device until the launch deals it. -/
def G (c : Dev nD) : sProp 𝕄 := if c = 0 then BI.own (ER (launchOf barCells scCells toks)) else iprop(emp)

theorem G_all : bigSep Finset.univ G = (BI.own (ER (launchOf barCells scCells toks)) : sProp 𝕄) := by
  have h : ∀ c ∈ Finset.univ.erase (0 : Dev nD), (G c : sProp 𝕄) = BI.emp := fun c hc => if_neg (Finset.ne_of_mem_erase hc)
  rw [bigSep_univ_at _ (0 : Dev nD), bigSep_congr h, BI.bigSep_emp_const]
  exact (BI.equiv_iff.mp sep_emp).trans (if_pos rfl)

/-- What every device may consult: all invariants, and that every barrier is at its first round. -/
def records (κ : GSem nD τ sig → ℕ) : sProp 𝕄 :=
  iprop(invs (outOf (own m)) (own m) κ ∗ bigSep barCells fun g => reached ER g 0)

instance records_persistent (κ : GSem nD τ sig → ℕ) : BI.Persistent (records m κ) := by unfold records; infer_instance

theorem reached_at (c : Dev nD) : (bigSep barCells fun g => (reached ER g 0 : sProp 𝕄)) ⊢ reached ER (bar c) 0 :=
  bigSep_elim (Finset.mem_map_of_mem barEmb (Finset.mem_univ c))

/-- What is one device's alone. -/
def alone (c : Dev nD) : sProp 𝕄 :=
  iprop((atPos ER (bar c) 0 ∅ 0 ∗ (bigSep Finset.univ fun k : Fin 9 => openTok ER ((c : Thread nD τ), osem k)) ∗ paying c) ∗ credits c)

theorem Tk_intro (κ : GSem nD τ sig → ℕ) (c : Dev nD) : iprop(records m κ ∗ alone c) ⊢ Tk m c := by
  unfold records alone Tk Toks Strm paying credits sndToks rcvToks
  iintro ⟨⟨#HI, #HR⟩, ⟨Hat, Hop, ⟨Hb1, Hb2, Hc⟩, Hs1, Hr1, Hs2, Hr2⟩, Hk, Hk1, Hk2⟩
  iexists κ
  isplitr; · iexact HI
  isplitl [Hop]; · iexact Hop
  isplitl [Hat]; · iexact Hat
  isplitl [Hk]; · iexact Hk
  isplitl [Hc]; · iexact Hc
  isplitl [Hs1 Hr1 Hk1 Hb2]
  · isplitl [Hs1]; · iexact Hs1
    isplitl [Hr1]; · iexact Hr1
    isplitl [Hk1]; · iexact Hk1
    isplitl [Hb2]; · iexact Hb2
    iapply (reached_at (F := F) (nxt true c)); iexact HR
  · isplitl [Hs2]; · iexact Hs2
    isplitl [Hr2]; · iexact Hr2
    isplitl [Hk2]; · iexact Hk2
    isplitl [Hb1]; · iexact Hb1
    iapply (reached_at (F := F) (nxt false c)); iexact HR

theorem unscoped_one : (Finset.univ.filter fun sm : SemLoc sig => ¬ sm.isScoped .tc) = {SemLoc.reg barSem} := by decide +kernel

theorem unscopedSems0_eq (c : Dev nD) : (unscopedSems0 c : sProp 𝕄) = semVal (bar c) 0 := by
  unfold unscopedSems0
  rw [unscoped_one, BI.bigSep_singleton]

/-- The launch makes on every device what it carries to the kernel. -/
theorem deal : iprop((bigSep Finset.univ fun c : Dev nD => iprop(unscopedSems0 c ∗ owes (c : Thread nD τ) (O₀ c) ∅ ∗ Pipeline.launchCred O₀ c ∗ prngReg c (ρ c) ∗ G c))
      ∗ levAts L lv)
    ⊢ (|={Set.univ}=> bigSep Finset.univ (rest m 0) : sProp 𝕄) := by
  have hcore (c : Dev nD) : iprop(unscopedSems0 c ∗ owes (c : Thread nD τ) (O₀ c) ∅ ∗ Pipeline.launchCred O₀ c ∗ prngReg c (ρ c) ∗ G c)
      ⊢ (iprop((credits c ∗ (∃ r, prngReg c r) ∗ owesE c (O₀ c)) ∗ semVal (bar c) 0 ∗ G c) : sProp 𝕄) := by
    rw [unscopedSems0_eq]
    unfold owesE
    iintro ⟨Hs, HO, Hc, Hp, HG⟩
    isplitl [HO Hc Hp]
    · isplitl [Hc]; · iapply (creds (F := F) c); iexact Hc
      isplitl [Hp]; · iexists (ρ c); iexact Hp
      iexists ∅; iexact HO
    isplitl [Hs]; · iexact Hs
    iexact HG
  have hv : bigSep Finset.univ (fun c : Dev nD => (semVal (bar c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (bar c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun k : Fin 9 => openTok ER ((c : Thread nD τ), osem k)) :=
    Entails.of_eq (by rw [bigSep_map, bigSep_univ_prod]; rfl)
  have pair {Φ Ψ : Dev nD → sProp 𝕄} : iprop(bigSep Finset.univ Φ ∗ bigSep Finset.univ Ψ) ⊢ bigSep Finset.univ (fun c => iprop(Φ c ∗ Ψ c)) :=
    Entails.of_eq (bigSep_sep' _ _ _).symm
  have hdeal (κ : GSem nD τ sig → ℕ) (c : Dev nD) :
      iprop(records m κ ∗ ((atPos ER (bar c) 0 ∅ 0 ∗ (bigSep Finset.univ fun k : Fin 9 => openTok ER ((c : Thread nD τ), osem k)) ∗ paying c)
        ∗ (credits c ∗ (∃ r, prngReg c r) ∗ owesE c (O₀ c)))) ⊢ rest m 0 c := by
    unfold rest
    iintro ⟨#HR, Ha, Hc, Hp, HO⟩
    isplitl [Ha Hc]
    · iapply (Tk_intro m κ c)
      isplitr; · iexact HR
      unfold alone
      isplitl [Ha]; · iexact Ha
      iexact Hc
    isplitl [Hp]; · iexact Hp
    iexact HO
  have hall : (bigSep Finset.univ fun c : Dev nD => iprop(unscopedSems0 c ∗ owes (c : Thread nD τ) (O₀ c) ∅ ∗ Pipeline.launchCred O₀ c ∗ prngReg c (ρ c) ∗ G c))
      ⊢ (bigSep Finset.univ fun c : Dev nD => iprop((credits c ∗ (∃ r, prngReg c r) ∗ owesE c (O₀ c)) ∗ semVal (bar c) 0 ∗ G c) : sProp 𝕄) :=
    bigSep_mono fun c _ => hcore c
  iintro ⟨H, -⟩
  ihave H' := hall $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (Entails.of_eq (G_all (F := F))) $$ HG
  imod (Rounds.fund_launch ER (sched (outOf (own m)) (own m)) disjoint_cells (fun g _ h => h) toks) $$ [Hv Hu] with ⟨%κ, -, #Hinv, #Hr, Hat, Hopen, Htok⟩
  · isplitl [Hv]; · iapply hv $$ Hv
    iexact Hu
  imodintro
  iapply (bigSep_with_persistent (R := records m κ) fun c _ => hdeal κ c)
  isplitr
  · unfold records invs
    isplitr; · iexact Hinv
    iexact Hr
  iapply pair
  isplitr [HB]
  · iapply pair; isplitl [Hat]; · iapply hat $$ Hat
    iapply pair; isplitl [Hopen]; · iapply hopen $$ Hopen
    iapply (Entails.of_eq (toks_around (F := F))) $$ Htok
  · iexact HB

end Cert.KernelIdeal.RingProof
-- ==== Proof.Run.lean ====
module

public import proofs.«01_k».proof.Proof.Launch
public import Idealize.ShloMosaic.Lib.Quiescent

/-! # The run of the whole program -/

@[expose] public section

set_option maxRecDepth 16384

noncomputable section

namespace Cert.KernelIdeal.RingProof

open Cert.KernelIdeal.Gen
open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

/-- The segments of a device's program: the table's operations, then the region. -/
abbrev parts := segs m 𝒱₀ L lv (rest m) (0 : ℕ) (dats m) (reg m)

theorem unscoped_eq : ∀ sm : SemLoc sig, sm.isScoped .tc = false → sm = .reg barSem := by decide +kernel

/-- What a final state shows of one device. -/
def Shown (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v49) = outOf (own m))
  ∧ s.sem (bar c) = 0

set_option backward.isDefEq.respectTransparency.types false in
/-- From any memory with all counters at zero every weakly fair execution terminates; at the end both arguments are as
    they were, every device's result holds each device's product in that device's block, and all counters are zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v49) = outOf (own m)) ∧ r.2.sem = fun _ => 0) := by
  refine Pipeline.θ_run_regions_kit_dev_sems (pcfgs (F := F)) adm (dats m) (0 : ℕ) cellOf_inj EP defs₀ 𝒱₀ L lv m ρ main (parts m)
    (fun c Q => by
      rewrite [main_chain c, Pipeline.Seg.run_eq_chain,
        show (parts m c).map Pipeline.Seg.prog = [
          StableHlo.seq (hostOps0 c), StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, StableHlo.seq hostOps0_9, StableHlo.seq hostOps0_10,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    O₀ L_of_ne G u₀
    (by
      unfold u₀
      rw [G_all]
      iintro Hu
      ihave H := (ownU_pair _ _) $$ Hu
      imodintro
      iexact H)
    (T₀ := fun c => iprop(StableHlo.held (c : Thread nD τ) (Pipeline.ucRefs τ sig) (V0 m c) ∗ rest m 0 c))
    (Tₙ := fun c => iprop(StableHlo.held (c : Thread nD τ) (Pipeline.ucRefs τ sig) (V12 m (outs m) c) ∗ semVal (bar c) 0))
    (hch := fun c => ⟨.rfl, .rfl, .rfl, .rfl, .rfl, .rfl, .rfl, .rfl, .rfl, .rfl, .rfl, reg_pre m c, (reg_post m c).trans ?_⟩)
    (hinit := ?_) (QY := fun c s => Shown m c s)
    (hfin := fun c s' => ?_)
    (hQ := fun s h hs => ⟨fun c => (h c).1, sem_eq_zero hs fun c sm hsm => by
      obtain rfl := unscoped_eq sm hsm
      exact (h c).2⟩)
  · unfold rest owesE
    iintro ⟨Hh, Hb, HO⟩
    isplitr [HO]
    · isplitl [Hh]; · iexact Hh
      iexact Hb
    iexact HO
  · have hsplit : (bigSep Finset.univ fun c : Dev nD => iprop(unscopedBufs c (fun b => m ((c.tc : Thread nD τ).loc b)) ∗ unscopedSems0 c
          ∗ owes (c : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c
              ∗ prngReg c (ρ c) ∗ G c)) : sProp 𝕄) := by
      rw [← bigSep_sep']
      exact bigSep_mono fun c _ => by
        rw [← Pipeline.unscopedBufs_held (Ix := ℕ) (Name := ℕ) (U := UU) (Lvl := ℕ) c (V0 m c)]; exact BI.Entails.refl _
    iintro ⟨H, Hla⟩
    ihave H' := hsplit $$ H
    icases H' with ⟨Hh, Hr⟩
    imod (deal m ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (V12 m (outs m) c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V12_main_arg0 m (outs m) c),
        (h (Proc.devRef .tc main_arg1) (Finset.mem_filter.mpr ⟨StableHlo.devRef_mem_tcRefs main_arg1, by decide⟩)).trans (V12_main_arg1 m (outs m) c),
        (h (Proc.devRef .tc main_v49) (Finset.mem_filter.mpr ⟨StableHlo.devRef_mem_tcRefs main_v49, by decide⟩)).trans (V12_out m c)⟩,
        by simpa using hb⟩
    · iexact HSI

end Cert.KernelIdeal.RingProof
-- ==== Proof.Same.lean ====
module

public import proofs.«01_k».proof.KernelIdeal
public import proofs.«01_k».proof.Kernel
public import proofs.«01_k».proof.Proof.Gen.Kernel
public import proofs.«01_k».proof.Proof.Gen.KernelIdeal
public import Idealize.ShloMosaic.PureOps.BitExact

/-! # The program and its idealized form are one program

No operation of the program is rewritten when it is idealized, so at the bits the two are the same text. -/

@[expose] public section

set_option maxRecDepth 16384
set_option maxHeartbeats 0

namespace Cert.KernelIdeal.RingProof

open Idealize.ShloMosaic

/-- The kernel's body. -/
theorem body_same : @Cert.Kernel.cc0_body Bits _ _ = @Cert.KernelIdeal.cc0_body Bits _ _ := by exact rfl

/-- The table of bodies. -/
theorem bodies_same : @Cert.Kernel.defs₀ Bits _ _ = @Cert.KernelIdeal.defs₀ Bits _ _ :=
  congrArg (Defs.onTc (τ := Cert.KernelIdeal.τ)) (funext fun l => funext fun a => match l, a with
    | 0, (t, s) => by
      change Cert.Kernel.cc0_body _ _ _ _ _ _ _ _ _ _ _ _ _ _ _ = Cert.KernelIdeal.cc0_body _ _ _ _ _ _ _ _ _ _ _ _ _ _ _
      exact rfl
    | ⟨_ + 1, h⟩, _ => absurd h (Nat.not_lt.2 (Nat.le_add_left _ _)))

/-- The table of bodies and of the pipeline's loop. -/
theorem defs_same : @Cert.Kernel.defs Bits _ _ = @Cert.KernelIdeal.defs Bits _ _ :=
  congrArg (Pipeline.defs (τ := Cert.KernelIdeal.τ) (Cert.KernelIdeal.pcfgs (F := Bits))) bodies_same

/-- The program of the devices. -/
theorem main_same : Cert.Kernel.main (F := Bits) = Cert.KernelIdeal.main (F := Bits) := by exact rfl

end Cert.KernelIdeal.RingProof
-- ==== Proof.Frames.lean ====
module

public import proofs.«01_k».proof.Proof.Run
public import proofs.«01_k».proof.Proof.Same
public import proofs.«01_k».proof.Proof.Gen.ReferenceIdeal.Run
public import proofs.«01_k».proof.Defs

/-! # The programs run, leave their arguments alone and leave all counters at zero -/

@[expose] public section

set_option maxRecDepth 16384

noncomputable section

namespace Cert.KernelIdeal.RingProof

open Idealize.ShloMosaic Idealize.ShloMosaic.TcCoe Idealize.SL.Sem

/-- The frame of the program at the ideal values. -/
theorem frame_ideal : Cert.quiescent_KernelIdeal := fun m g _ =>
  (θ_run Cert.KernelIdeal.defs _ _).mono (fun _ h => ⟨fun c => ⟨(h.1 c).1, (h.1 c).2.1⟩, h.2⟩) (run_main (F := Ideal) m g)

/-- Whatever the program does at the bits, its idealized form does. -/
theorem run_same (s : MemSt Cert.KernelIdeal.nD Cert.KernelIdeal.τ Cert.KernelIdeal.sig (Elt Bits)) (P) :
    θ_run (Cert.Kernel.defs (F := Bits)) (onTc (τ := Cert.KernelIdeal.τ) (Cert.Kernel.main (F := Bits))) s P
      = θ_run (Cert.KernelIdeal.defs (F := Bits)) (onTc (τ := Cert.KernelIdeal.τ) (Cert.KernelIdeal.main (F := Bits))) s P :=
  congrArg₂ (fun D M => θ_run D (onTc (τ := Cert.KernelIdeal.τ) M) s P) defs_same main_same

/-- The frame of the program at the bits. -/
theorem frame_bits : Cert.quiescent_Kernel := fun m g _ =>
  (run_same ⟨m, fun _ => 0, g⟩ _).mpr
    ((θ_run Cert.KernelIdeal.defs _ _).mono (fun _ h => ⟨fun c => ⟨(h.1 c).1, (h.1 c).2.1⟩, h.2⟩) (run_main (F := Bits) m g))

/-- The frame of the reference, which has no counters. -/
theorem frame_ref : Cert.quiescent_ReferenceIdeal := fun m g _ =>
  (θ_run Cert.ReferenceIdeal.defs _ _).mono
    (fun r h => ⟨fun c => (h c).2, sem_eq_zero_of_no_sems (sig := Cert.ReferenceIdeal.sig) (by decide) r.2⟩) (Cert.ReferenceIdeal.Value.run (F := Ideal) m g)

end Cert.KernelIdeal.RingProof
-- ==== Proof.Product.lean ====
module

public import proofs.«01_k».proof.Proof.Run
public import proofs.«01_k».proof.Proof.Gen.ReferenceIdeal.Run
public import Idealize.ShloMosaic.Lib.KernelVsHost
public import Idealize.ShloMosaic.Lib.StackMember
public import Idealize.ShloMosaic.Lib.Layout

/-! # The gathered chunks are the whole product

At the ideal values a device's chunk is the product of its rows of the left array with the right array. The chunks,
each in its device's block of rows, are therefore the product of the whole arrays. -/

@[expose] public section

set_option maxRecDepth 16384

noncomputable section

namespace Cert.KernelIdeal.RingProof

open Cert.KernelIdeal.Gen
open Idealize.ShloMosaic Idealize.ShloMosaic.TcCoe Idealize.ShloMosaic.ValueIdx

/-- A chunk at a row and a column: the sum over the contracted coordinate of the products of the entries. -/
theorem chunk_apply (a : Vec Ideal S1536x768 .f32) (b : Vec Ideal S768x1536 .f32) (r : Fin 1536) (l : Fin 1536) :
    k0_pay1 (F := Ideal) a b (ix2 r l) = ∑ k : Fin 768, a (ix2 r k) * b (ix2 k l) := by
  unfold k0_pay1
  simp only [shapeCast_self]
  rw [matmul_zero_eq_dotGeneral]
  exact StackMember.dotGeneral_plain_apply (m := 1536) (k := 768) (n := 1536) none a b r l

variable (m : (ℓ : Loc nD τ sig) → Buf (Elt Ideal) ℓ)

/-- If every device holds its rows of `A` and the whole of `B`, the gathered chunks are `A · B`. -/
theorem gathered (A : FVec Ideal ⟨2, ![49152, 768]⟩ .f32) (B : FVec Ideal ⟨2, ![768, 1536]⟩ .f32)
    (hA : ∀ c : Dev nD, lhs m c = Layout.block ⟨2, ![1536, 768]⟩ ⟨2, ![49152, 768]⟩ 0 32 c A)
    (hB : ∀ c : Dev nD, rhs m c = B) :
    outOf (own m) = Host.dotGeneral (DotDims.plain 49152 768 1536) none A B := by
  funext i
  obtain ⟨r, l, rfl⟩ : ∃ (r : Fin 49152) (l : Fin 1536), i = ix2 r l := ⟨i 0, i 1, funext fun a => by fin_cases a <;> rfl⟩
  rw [StackMember.dotGeneral_plain_apply]
  have hr : r.val % 1536 < 1536 := Nat.mod_lt _ (by decide)
  have hin : inBlk (ix2 r l) = ix2 (⟨r.val % 1536, hr⟩ : Fin 1536) l := funext fun a => by fin_cases a <;> rfl
  show k0_pay1 (F := Ideal) (lhs m (devOf (ix2 r l))) (rhs m (devOf (ix2 r l))) (inBlk (ix2 r l)) = _
  rw [hin, chunk_apply]
  refine Finset.sum_congr rfl fun k _ => ?_
  rw [hA, hB]
  refine congrArg (fun x => A x * B (ix2 k l)) (funext fun a => Fin.ext ?_)
  fin_cases a
  · show r.val / 1536 * 1536 + r.val % 1536 = r.val
    omega
  · rfl

end Cert.KernelIdeal.RingProof
-- ==== Proof.Value.lean ====
module

public import proofs.«01_k».proof.Proof.Product
public import proofs.«01_k».proof.Defs

/-! # The program's result is the reference's -/

@[expose] public section

set_option maxRecDepth 16384

noncomputable section

namespace Cert.KernelIdeal.RingProof

open Idealize.ShloMosaic Idealize.ShloMosaic.TcCoe Idealize.SL.Sem

/-- At the ideal values every device ends with the reference's product of the whole arrays. -/
theorem same_value : Cert.algebraic_KernelIdeal_ReferenceIdeal := fun m g m' g' _ hin =>
  ⟨outOf (own m),
    (θ_run Cert.KernelIdeal.defs _ _).mono (fun _ h c => ⟨(h.1 c).2.2, (h.1 c).1, (h.1 c).2.1⟩) (run_main (F := Ideal) m g),
    (θ_run Cert.ReferenceIdeal.defs _ _).mono
      (fun _ h => ⟨(h 0).1.trans (gathered m _ _ (fun c => (hin c).1) (fun c => (hin c).2)).symm, (h 0).2⟩)
      (Cert.ReferenceIdeal.Value.run (F := Ideal) m' g')⟩

end Cert.KernelIdeal.RingProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Cert.KernelIdeal.RingProof

/-- All five claims. -/
theorem claim : Cert.Claim :=
  ⟨Cert.Kernel.Gen.facts, Cert.KernelIdeal.Gen.facts, Cert.ReferenceIdeal.Gen.facts,
    frame_bits, frame_ideal, frame_ref, trivial, same_value⟩

end Cert.Proof

end
